-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_history [hPre_finite_history : Cert.Pre_finite_history.Facts] (m : (ℓ : Loc Cert.KernelIdeal.nD Cert.KernelIdeal.τ Cert.KernelIdeal.sig) → Buf (Elt Ideal) ℓ) : Prop :=
  ∀ c : Dev Cert.KernelIdeal.nD,
    (Cert.Pre_finite_history.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_history [hPre_finite_history : Cert.Pre_finite_history.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_history.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_history [hKernelIdeal : Cert.KernelIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_history m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_history [hReferenceIdeal : Cert.ReferenceIdeal.Facts] [hPre_finite_history : Cert.Pre_finite_history.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_history m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal_pre_finite_history [hKernelIdeal : Cert.KernelIdeal.Facts] [hReferenceIdeal : Cert.ReferenceIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_history m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_history : Cert.Pre_finite_history.Facts),
    quiescent_Kernel (hKernel := hKernel)
    ∧ quiescent_KernelIdeal (hKernelIdeal := hKernelIdeal)
    ∧ quiescent_KernelIdeal_pre_finite_history (hKernelIdeal := hKernelIdeal) (hPre_finite_history := hPre_finite_history)
    ∧ quiescent_ReferenceIdeal (hReferenceIdeal := hReferenceIdeal)
    ∧ quiescent_ReferenceIdeal_pre_finite_history (hReferenceIdeal := hReferenceIdeal) (hPre_finite_history := hPre_finite_history)
    ∧ preserves_Kernel_KernelIdeal
    ∧ algebraic_KernelIdeal_ReferenceIdeal_pre_finite_history (hKernelIdeal := hKernelIdeal) (hReferenceIdeal := hReferenceIdeal) (hPre_finite_history := hPre_finite_history)
-- ==== Pre_finite_history.lean ====
abbrev S2x16x640x5120 : Shape := ⟨4, ![2, 16, 640, 5120]⟩
abbrev S2x16x640 : Shape := ⟨3, ![2, 16, 640]⟩
abbrev S5120 : Shape := ⟨1, ![5120]⟩
abbrev S16x640x5120 : Shape := ⟨3, ![16, 640, 5120]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S2x16x640x5120 .fp8e4m3) (main_arg1 : FVec F S2x16x640 .f32) (main_arg2 : FVec F S5120 .f32) (main_arg3 : FVec F S16x640x5120 .bf16) (main_arg4 : FVec F S5120 .f32) (main_arg5 : FVec F S16 .f32) : IVec S16 1 :=
  let main_v0 : FVec F S16 .f32 := Host.absf main_arg5
  let main_cst : FVec F S_ .f32 := constant S_ .f32 0x7F7FFFFF#32
  let main_v1 : FVec F S16 .f32 := broadcastInDim S16 ![] bcast_S_S16 main_cst
  let main_v2 : IVec S16 1 := cmpf .ole main_v0 main_v1
  main_v2
-- ==== Kernel.lean ====
abbrev S2x16x640x5120 : Shape := ⟨4, ![2, 16, 640, 5120]⟩
abbrev S2x16x640 : Shape := ⟨3, ![2, 16, 640]⟩
abbrev S5120 : Shape := ⟨1, ![5120]⟩
abbrev S16x640x5120 : Shape := ⟨3, ![16, 640, 5120]⟩
abbrev S16 : Shape := ⟨1, ![16]⟩
abbrev S1x5120 : Shape := ⟨2, ![1, 5120]⟩
abbrev S1x16 : Shape := ⟨2, ![1, 16]⟩
abbrev S1 : Shape := ⟨1, ![1]⟩
abbrev S2x1x128x5120 : Shape := ⟨4, ![2, 1, 128, 5120]⟩
abbrev S1x128x5120 : Shape := ⟨3, ![1, 128, 5120]⟩
abbrev S2x128x128 : Shape := ⟨3, ![2, 128, 128]⟩
abbrev S32x128 : Shape := ⟨2, ![32, 128]⟩
abbrev S1x1 : Shape := ⟨2, ![1, 1]⟩
abbrev S1x256 : Shape := ⟨2, ![1, 256]⟩
abbrev S1x16x128 : Shape := ⟨3, ![1, 16, 128]⟩
abbrev S16x128 : Shape := ⟨2, ![16, 128]⟩
abbrev S128 : Shape := ⟨1, ![128]⟩
abbrev S1x128 : Shape := ⟨2, ![1, 128]⟩
abbrev S128x128 : Shape := ⟨2, ![128, 128]⟩
abbrev S1x128x128 : Shape := ⟨3, ![1, 128, 128]⟩
abbrev S1x32x128 : Shape := ⟨3, ![1, 32, 128]⟩
abbrev S1x1x32x128 : Shape := ⟨4, ![1, 1, 32, 128]⟩
abbrev S32 : Shape := ⟨1, ![32]⟩
abbrev S32x1 : Shape := ⟨2, ![32, 1]⟩
abbrev S1x1x1 : Shape := ⟨3, ![1, 1, 1]⟩

abbrev nBuf : Space → Nat
  | .hbm => 14
  | .vmem => 14
  | .smem => 4
  | _ => 0

abbrev bufTy : (tb : Table) → Fin (tcTables nBuf tb) → BufTy
  | .hbm, ⟨0, _⟩ => ⟨S2x16x640x5120, .fp8e4m3⟩
  | .hbm, ⟨1, _⟩ => ⟨S2x16x640, .f32⟩
  | .hbm, ⟨2, _⟩ => ⟨S5120, .f32⟩
  | .hbm, ⟨3, _⟩ => ⟨S16x640x5120, .bf16⟩
  | .hbm, ⟨4, _⟩ => ⟨S5120, .f32⟩
  | .hbm, ⟨5, _⟩ => ⟨S16, .f32⟩
  | .hbm, ⟨6, _⟩ => ⟨S1x5120, .f32⟩
  | .hbm, ⟨7, _⟩ => ⟨S1x5120, .f32⟩
  | .hbm, ⟨8, _⟩ => ⟨S1x16, .f32⟩
  | .hbm, ⟨9, _⟩ => ⟨S16x640x5120, .bf16⟩
  | .hbm, ⟨10, _⟩ => ⟨S1, .f32⟩
  | .hbm, ⟨11, _⟩ => ⟨S16, .f32⟩
  | .hbm, ⟨12, _⟩ => ⟨S16x640x5120, .fp8e4m3⟩
  | .hbm, ⟨13, _⟩ => ⟨S1, .f32⟩
  | .local _ .vmem, ⟨0, _⟩ => ⟨S2x16x640, .f32⟩
  | .local _ .vmem, ⟨1, _⟩ => ⟨S1x5120, .f32⟩
  | .local _ .vmem, ⟨2, _⟩ => ⟨S1x5120, .f32⟩
  | .local _ .vmem, ⟨3, _⟩ => ⟨S1x16, .f32⟩
  | .local _ .vmem, ⟨4, _⟩ => ⟨S2x1x128x5120, .fp8e4m3⟩
  | .local _ .vmem, ⟨5, _⟩ => ⟨S2x1x128x5120, .fp8e4m3⟩
  | .local _ .vmem, ⟨6, _⟩ => ⟨S1x128x5120, .bf16⟩
  | .local _ .vmem, ⟨7, _⟩ => ⟨S1x128x5120, .bf16⟩
  | .local _ .vmem, ⟨8, _⟩ => ⟨S1x128x5120, .bf16⟩
  | .local _ .vmem, ⟨9, _⟩ => ⟨S1x128x5120, .bf16⟩
  | .local _ .vmem, ⟨10, _⟩ => ⟨S1x128x5120, .fp8e4m3⟩
  | .local _ .vmem, ⟨11, _⟩ => ⟨S1x128x5120, .fp8e4m3⟩
  | .local _ .vmem, ⟨12, _⟩ => ⟨S2x128x128, .f32⟩
  | .local _ .vmem, ⟨13, _⟩ => ⟨S32x128, .f32⟩
  | .local _ .smem, ⟨0, _⟩ => ⟨S16, .f32⟩
  | .local _ .smem, ⟨1, _⟩ => ⟨S1, .f32⟩
  | .local _ .smem, ⟨2, _⟩ => ⟨S16, .f32⟩
  | .local _ .smem, ⟨3, _⟩ => ⟨S1, .f32⟩
  | _, _ => ⟨S2x16x640x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg11_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨2, ![16, 5], ![false, false]⟩

def k0_mult1 (i : grid0.Coords) : BitVec 32 :=
  let arg1 : BitVec 32 := BitVec.ofNat 32 (i 1).val
  let c128_i32 : BitVec 32 := 128#32
  let v46 : BitVec 32 := Scalar.muli arg1 c128_i32
  v46
def k0_off1 (i : grid0.Coords) : Fin 3 → Nat :=
  let c0_12 : Index := 0#32
  let c0_13 : Index := 0#32
  let arg1 : BitVec 32 := BitVec.ofNat 32 (i 1).val
  let c128_i32 : BitVec 32 := 128#32
  let v46 : BitVec 32 := Scalar.muli arg1 c128_i32
  let v47 : BitVec 32 := v46
  let v48 : Index := Scalar.indexCast v47
  ![0, 0, v48.toNat]
def k0_mult2 (i : grid0.Coords) : BitVec 32 :=
  let arg1 : BitVec 32 := BitVec.ofNat 32 (i 1).val
  let c128_i32_19 : BitVec 32 := 128#32
  let v64 : BitVec 32 := Scalar.muli arg1 c128_i32_19
  v64
def k0_off2 (i : grid0.Coords) : Fin 3 → Nat :=
  let c1 : Index := 1#32
  let c0_20 : Index := 0#32
  let arg1 : BitVec 32 := BitVec.ofNat 32 (i 1).val
  let c128_i32_19 : BitVec 32 := 128#32
  let v64 : BitVec 32 := Scalar.muli arg1 c128_i32_19
  let v65 : BitVec 32 := v64
  let v66 : Index := Scalar.indexCast v65
  ![1, 0, v66.toNat]
@[reducible] def k0_t1_loop : Scf.Loop 32 :=
  let c0_i32_28 : BitVec 32 := 0#32
  let c4_i32 : BitVec 32 := 4#32
  let v83 : BitVec 32 := Scalar.addi c0_i32_28 c4_i32
  let c1_i32_29 : BitVec 32 := 1#32
  ⟨c0_i32_28, v83, c1_i32_29⟩
def k0_mult3 (k0_t1 : Fin k0_t1_loop.trips) : BitVec 32 :=
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  v93
def k0_off3 (k0_t1 : Fin k0_t1_loop.trips) : Fin 3 → Nat :=
  let c0_35 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v95 : Index := Scalar.indexCast v94
  let c0_36 : Index := 0#32
  ![0, v95.toNat, 0]
def k0_off4 (k0_t1 : Fin k0_t1_loop.trips) : Fin 3 → Nat :=
  let c1_37 : Index := 1#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v98 : Index := Scalar.indexCast v94
  let c0_38 : Index := 0#32
  ![1, v98.toNat, 0]
def k0_off5 (k0_t1 : Fin k0_t1_loop.trips) : Fin 4 → Nat :=
  let c0_40 : Index := 0#32
  let c0_41 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v102 : Index := Scalar.indexCast v94
  let c0_42 : Index := 0#32
  ![0, 0, v102.toNat, 0]
def k0_off6 (k0_t1 : Fin k0_t1_loop.trips) : Fin 4 → Nat :=
  let c1_43 : Index := 1#32
  let c0_44 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v106 : Index := Scalar.indexCast v94
  let c0_45 : Index := 0#32
  ![1, 0, v106.toNat, 0]
def k0_off7 (k0_t1 : Fin k0_t1_loop.trips) : Fin 3 → Nat :=
  let c0_48 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v117 : Index := Scalar.indexCast v94
  let c0_49 : Index := 0#32
  ![0, v117.toNat, 0]
def k0_off8 (k0_t1 : Fin k0_t1_loop.trips) : Fin 4 → Nat :=
  let c0_52 : Index := 0#32
  let c0_53 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v130 : Index := Scalar.indexCast v94
  let c128 : Index := 128#32
  ![0, 0, v130.toNat, 128]
def k0_off9 (k0_t1 : Fin k0_t1_loop.trips) : Fin 4 → Nat :=
  let c1_54 : Index := 1#32
  let c0_55 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v134 : Index := Scalar.indexCast v94
  let c128_56 : Index := 128#32
  ![1, 0, v134.toNat, 128]
def k0_off10 (k0_t1 : Fin k0_t1_loop.trips) : Fin 3 → Nat :=
  let c0_59 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v145 : Index := Scalar.indexCast v94
  let c128_60 : Index := 128#32
  ![0, v145.toNat, 128]
def k0_off11 (k0_t1 : Fin k0_t1_loop.trips) : Fin 4 → Nat :=
  let c0_63 : Index := 0#32
  let c0_64 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v158 : Index := Scalar.indexCast v94
  let c256 : Index := 256#32
  ![0, 0, v158.toNat, 256]
def k0_off12 (k0_t1 : Fin k0_t1_loop.trips) : Fin 4 → Nat :=
  let c1_65 : Index := 1#32
  let c0_66 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v162 : Index := Scalar.indexCast v94
  let c256_67 : Index := 256#32
  ![1, 0, v162.toNat, 256]
def k0_off13 (k0_t1 : Fin k0_t1_loop.trips) : Fin 3 → Nat :=
  let c0_70 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v173 : Index := Scalar.indexCast v94
  let c256_71 : Index := 256#32
  ![0, v173.toNat, 256]
def k0_off14 (k0_t1 : Fin k0_t1_loop.trips) : Fin 4 → Nat :=
  let c0_74 : Index := 0#32
  let c0_75 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v186 : Index := Scalar.indexCast v94
  let c384 : Index := 384#32
  ![0, 0, v186.toNat, 384]
def k0_off15 (k0_t1 : Fin k0_t1_loop.trips) : Fin 4 → Nat :=
  let c1_76 : Index := 1#32
  let c0_77 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v190 : Index := Scalar.indexCast v94
  let c384_78 : Index := 384#32
  ![1, 0, v190.toNat, 384]
def k0_off16 (k0_t1 : Fin k0_t1_loop.trips) : Fin 3 → Nat :=
  let c0_81 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v201 : Index := Scalar.indexCast v94
  let c384_82 : Index := 384#32
  ![0, v201.toNat, 384]
def k0_off17 (k0_t1 : Fin k0_t1_loop.trips) : Fin 4 → Nat :=
  let c0_85 : Index := 0#32
  let c0_86 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v214 : Index := Scalar.indexCast v94
  let c512 : Index := 512#32
  ![0, 0, v214.toNat, 512]
def k0_off18 (k0_t1 : Fin k0_t1_loop.trips) : Fin 4 → Nat :=
  let c1_87 : Index := 1#32
  let c0_88 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v218 : Index := Scalar.indexCast v94
  let c512_89 : Index := 512#32
  ![1, 0, v218.toNat, 512]
def k0_off19 (k0_t1 : Fin k0_t1_loop.trips) : Fin 3 → Nat :=
  let c0_92 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v229 : Index := Scalar.indexCast v94
  let c512_93 : Index := 512#32
  ![0, v229.toNat, 512]
def k0_off20 (k0_t1 : Fin k0_t1_loop.trips) : Fin 4 → Nat :=
  let c0_96 : Index := 0#32
  let c0_97 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v242 : Index := Scalar.indexCast v94
  let c640 : Index := 640#32
  ![0, 0, v242.toNat, 640]
def k0_off21 (k0_t1 : Fin k0_t1_loop.trips) : Fin 4 → Nat :=
  let c1_98 : Index := 1#32
  let c0_99 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v246 : Index := Scalar.indexCast v94
  let c640_100 : Index := 640#32
  ![1, 0, v246.toNat, 640]
def k0_off22 (k0_t1 : Fin k0_t1_loop.trips) : Fin 3 → Nat :=
  let c0_103 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v257 : Index := Scalar.indexCast v94
  let c640_104 : Index := 640#32
  ![0, v257.toNat, 640]
def k0_off23 (k0_t1 : Fin k0_t1_loop.trips) : Fin 4 → Nat :=
  let c0_107 : Index := 0#32
  let c0_108 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v270 : Index := Scalar.indexCast v94
  let c768 : Index := 768#32
  ![0, 0, v270.toNat, 768]
def k0_off24 (k0_t1 : Fin k0_t1_loop.trips) : Fin 4 → Nat :=
  let c1_109 : Index := 1#32
  let c0_110 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v274 : Index := Scalar.indexCast v94
  let c768_111 : Index := 768#32
  ![1, 0, v274.toNat, 768]
def k0_off25 (k0_t1 : Fin k0_t1_loop.trips) : Fin 3 → Nat :=
  let c0_114 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v285 : Index := Scalar.indexCast v94
  let c768_115 : Index := 768#32
  ![0, v285.toNat, 768]
def k0_off26 (k0_t1 : Fin k0_t1_loop.trips) : Fin 4 → Nat :=
  let c0_118 : Index := 0#32
  let c0_119 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v298 : Index := Scalar.indexCast v94
  let c896 : Index := 896#32
  ![0, 0, v298.toNat, 896]
def k0_off27 (k0_t1 : Fin k0_t1_loop.trips) : Fin 4 → Nat :=
  let c1_120 : Index := 1#32
  let c0_121 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v302 : Index := Scalar.indexCast v94
  let c896_122 : Index := 896#32
  ![1, 0, v302.toNat, 896]
def k0_off28 (k0_t1 : Fin k0_t1_loop.trips) : Fin 3 → Nat :=
  let c0_125 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v313 : Index := Scalar.indexCast v94
  let c896_126 : Index := 896#32
  ![0, v313.toNat, 896]
def k0_off29 (k0_t1 : Fin k0_t1_loop.trips) : Fin 4 → Nat :=
  let c0_129 : Index := 0#32
  let c0_130 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v326 : Index := Scalar.indexCast v94
  let c1024 : Index := 1024#32
  ![0, 0, v326.toNat, 1024]
def k0_off30 (k0_t1 : Fin k0_t1_loop.trips) : Fin 4 → Nat :=
  let c1_131 : Index := 1#32
  let c0_132 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v330 : Index := Scalar.indexCast v94
  let c1024_133 : Index := 1024#32
  ![1, 0, v330.toNat, 1024]
def k0_off31 (k0_t1 : Fin k0_t1_loop.trips) : Fin 3 → Nat :=
  let c0_136 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v341 : Index := Scalar.indexCast v94
  let c1024_137 : Index := 1024#32
  ![0, v341.toNat, 1024]
def k0_off32 (k0_t1 : Fin k0_t1_loop.trips) : Fin 4 → Nat :=
  let c0_140 : Index := 0#32
  let c0_141 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v354 : Index := Scalar.indexCast v94
  let c1152 : Index := 1152#32
  ![0, 0, v354.toNat, 1152]
def k0_off33 (k0_t1 : Fin k0_t1_loop.trips) : Fin 4 → Nat :=
  let c1_142 : Index := 1#32
  let c0_143 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v358 : Index := Scalar.indexCast v94
  let c1152_144 : Index := 1152#32
  ![1, 0, v358.toNat, 1152]
def k0_off34 (k0_t1 : Fin k0_t1_loop.trips) : Fin 3 → Nat :=
  let c0_147 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v369 : Index := Scalar.indexCast v94
  let c1152_148 : Index := 1152#32
  ![0, v369.toNat, 1152]
def k0_off35 (k0_t1 : Fin k0_t1_loop.trips) : Fin 4 → Nat :=
  let c0_151 : Index := 0#32
  let c0_152 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v382 : Index := Scalar.indexCast v94
  let c1280 : Index := 1280#32
  ![0, 0, v382.toNat, 1280]
def k0_off36 (k0_t1 : Fin k0_t1_loop.trips) : Fin 4 → Nat :=
  let c1_153 : Index := 1#32
  let c0_154 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v386 : Index := Scalar.indexCast v94
  let c1280_155 : Index := 1280#32
  ![1, 0, v386.toNat, 1280]
def k0_off37 (k0_t1 : Fin k0_t1_loop.trips) : Fin 3 → Nat :=
  let c0_158 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v397 : Index := Scalar.indexCast v94
  let c1280_159 : Index := 1280#32
  ![0, v397.toNat, 1280]
def k0_off38 (k0_t1 : Fin k0_t1_loop.trips) : Fin 4 → Nat :=
  let c0_162 : Index := 0#32
  let c0_163 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v410 : Index := Scalar.indexCast v94
  let c1408 : Index := 1408#32
  ![0, 0, v410.toNat, 1408]
def k0_off39 (k0_t1 : Fin k0_t1_loop.trips) : Fin 4 → Nat :=
  let c1_164 : Index := 1#32
  let c0_165 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v414 : Index := Scalar.indexCast v94
  let c1408_166 : Index := 1408#32
  ![1, 0, v414.toNat, 1408]
def k0_off40 (k0_t1 : Fin k0_t1_loop.trips) : Fin 3 → Nat :=
  let c0_169 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v425 : Index := Scalar.indexCast v94
  let c1408_170 : Index := 1408#32
  ![0, v425.toNat, 1408]
def k0_off41 (k0_t1 : Fin k0_t1_loop.trips) : Fin 4 → Nat :=
  let c0_173 : Index := 0#32
  let c0_174 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v438 : Index := Scalar.indexCast v94
  let c1536 : Index := 1536#32
  ![0, 0, v438.toNat, 1536]
def k0_off42 (k0_t1 : Fin k0_t1_loop.trips) : Fin 4 → Nat :=
  let c1_175 : Index := 1#32
  let c0_176 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v442 : Index := Scalar.indexCast v94
  let c1536_177 : Index := 1536#32
  ![1, 0, v442.toNat, 1536]
def k0_off43 (k0_t1 : Fin k0_t1_loop.trips) : Fin 3 → Nat :=
  let c0_180 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v453 : Index := Scalar.indexCast v94
  let c1536_181 : Index := 1536#32
  ![0, v453.toNat, 1536]
def k0_off44 (k0_t1 : Fin k0_t1_loop.trips) : Fin 4 → Nat :=
  let c0_184 : Index := 0#32
  let c0_185 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v466 : Index := Scalar.indexCast v94
  let c1664 : Index := 1664#32
  ![0, 0, v466.toNat, 1664]
def k0_off45 (k0_t1 : Fin k0_t1_loop.trips) : Fin 4 → Nat :=
  let c1_186 : Index := 1#32
  let c0_187 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v470 : Index := Scalar.indexCast v94
  let c1664_188 : Index := 1664#32
  ![1, 0, v470.toNat, 1664]
def k0_off46 (k0_t1 : Fin k0_t1_loop.trips) : Fin 3 → Nat :=
  let c0_191 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v481 : Index := Scalar.indexCast v94
  let c1664_192 : Index := 1664#32
  ![0, v481.toNat, 1664]
def k0_off47 (k0_t1 : Fin k0_t1_loop.trips) : Fin 4 → Nat :=
  let c0_195 : Index := 0#32
  let c0_196 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v494 : Index := Scalar.indexCast v94
  let c1792 : Index := 1792#32
  ![0, 0, v494.toNat, 1792]
def k0_off48 (k0_t1 : Fin k0_t1_loop.trips) : Fin 4 → Nat :=
  let c1_197 : Index := 1#32
  let c0_198 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v498 : Index := Scalar.indexCast v94
  let c1792_199 : Index := 1792#32
  ![1, 0, v498.toNat, 1792]
def k0_off49 (k0_t1 : Fin k0_t1_loop.trips) : Fin 3 → Nat :=
  let c0_202 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v509 : Index := Scalar.indexCast v94
  let c1792_203 : Index := 1792#32
  ![0, v509.toNat, 1792]
def k0_off50 (k0_t1 : Fin k0_t1_loop.trips) : Fin 4 → Nat :=
  let c0_206 : Index := 0#32
  let c0_207 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v522 : Index := Scalar.indexCast v94
  let c1920 : Index := 1920#32
  ![0, 0, v522.toNat, 1920]
def k0_off51 (k0_t1 : Fin k0_t1_loop.trips) : Fin 4 → Nat :=
  let c1_208 : Index := 1#32
  let c0_209 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v526 : Index := Scalar.indexCast v94
  let c1920_210 : Index := 1920#32
  ![1, 0, v526.toNat, 1920]
def k0_off52 (k0_t1 : Fin k0_t1_loop.trips) : Fin 3 → Nat :=
  let c0_213 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v537 : Index := Scalar.indexCast v94
  let c1920_214 : Index := 1920#32
  ![0, v537.toNat, 1920]
def k0_off53 (k0_t1 : Fin k0_t1_loop.trips) : Fin 4 → Nat :=
  let c0_217 : Index := 0#32
  let c0_218 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v550 : Index := Scalar.indexCast v94
  let c2048 : Index := 2048#32
  ![0, 0, v550.toNat, 2048]
def k0_off54 (k0_t1 : Fin k0_t1_loop.trips) : Fin 4 → Nat :=
  let c1_219 : Index := 1#32
  let c0_220 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v554 : Index := Scalar.indexCast v94
  let c2048_221 : Index := 2048#32
  ![1, 0, v554.toNat, 2048]
def k0_off55 (k0_t1 : Fin k0_t1_loop.trips) : Fin 3 → Nat :=
  let c0_224 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v565 : Index := Scalar.indexCast v94
  let c2048_225 : Index := 2048#32
  ![0, v565.toNat, 2048]
def k0_off56 (k0_t1 : Fin k0_t1_loop.trips) : Fin 4 → Nat :=
  let c0_228 : Index := 0#32
  let c0_229 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v578 : Index := Scalar.indexCast v94
  let c2176 : Index := 2176#32
  ![0, 0, v578.toNat, 2176]
def k0_off57 (k0_t1 : Fin k0_t1_loop.trips) : Fin 4 → Nat :=
  let c1_230 : Index := 1#32
  let c0_231 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v582 : Index := Scalar.indexCast v94
  let c2176_232 : Index := 2176#32
  ![1, 0, v582.toNat, 2176]
def k0_off58 (k0_t1 : Fin k0_t1_loop.trips) : Fin 3 → Nat :=
  let c0_235 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v593 : Index := Scalar.indexCast v94
  let c2176_236 : Index := 2176#32
  ![0, v593.toNat, 2176]
def k0_off59 (k0_t1 : Fin k0_t1_loop.trips) : Fin 4 → Nat :=
  let c0_239 : Index := 0#32
  let c0_240 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v606 : Index := Scalar.indexCast v94
  let c2304 : Index := 2304#32
  ![0, 0, v606.toNat, 2304]
def k0_off60 (k0_t1 : Fin k0_t1_loop.trips) : Fin 4 → Nat :=
  let c1_241 : Index := 1#32
  let c0_242 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v610 : Index := Scalar.indexCast v94
  let c2304_243 : Index := 2304#32
  ![1, 0, v610.toNat, 2304]
def k0_off61 (k0_t1 : Fin k0_t1_loop.trips) : Fin 3 → Nat :=
  let c0_246 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v621 : Index := Scalar.indexCast v94
  let c2304_247 : Index := 2304#32
  ![0, v621.toNat, 2304]
def k0_off62 (k0_t1 : Fin k0_t1_loop.trips) : Fin 4 → Nat :=
  let c0_250 : Index := 0#32
  let c0_251 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v634 : Index := Scalar.indexCast v94
  let c2432 : Index := 2432#32
  ![0, 0, v634.toNat, 2432]
def k0_off63 (k0_t1 : Fin k0_t1_loop.trips) : Fin 4 → Nat :=
  let c1_252 : Index := 1#32
  let c0_253 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v638 : Index := Scalar.indexCast v94
  let c2432_254 : Index := 2432#32
  ![1, 0, v638.toNat, 2432]
def k0_off64 (k0_t1 : Fin k0_t1_loop.trips) : Fin 3 → Nat :=
  let c0_257 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v649 : Index := Scalar.indexCast v94
  let c2432_258 : Index := 2432#32
  ![0, v649.toNat, 2432]
def k0_off65 (k0_t1 : Fin k0_t1_loop.trips) : Fin 4 → Nat :=
  let c0_261 : Index := 0#32
  let c0_262 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v662 : Index := Scalar.indexCast v94
  let c2560 : Index := 2560#32
  ![0, 0, v662.toNat, 2560]
def k0_off66 (k0_t1 : Fin k0_t1_loop.trips) : Fin 4 → Nat :=
  let c1_263 : Index := 1#32
  let c0_264 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v666 : Index := Scalar.indexCast v94
  let c2560_265 : Index := 2560#32
  ![1, 0, v666.toNat, 2560]
def k0_off67 (k0_t1 : Fin k0_t1_loop.trips) : Fin 3 → Nat :=
  let c0_268 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v677 : Index := Scalar.indexCast v94
  let c2560_269 : Index := 2560#32
  ![0, v677.toNat, 2560]
def k0_off68 (k0_t1 : Fin k0_t1_loop.trips) : Fin 4 → Nat :=
  let c0_272 : Index := 0#32
  let c0_273 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v690 : Index := Scalar.indexCast v94
  let c2688 : Index := 2688#32
  ![0, 0, v690.toNat, 2688]
def k0_off69 (k0_t1 : Fin k0_t1_loop.trips) : Fin 4 → Nat :=
  let c1_274 : Index := 1#32
  let c0_275 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v694 : Index := Scalar.indexCast v94
  let c2688_276 : Index := 2688#32
  ![1, 0, v694.toNat, 2688]
def k0_off70 (k0_t1 : Fin k0_t1_loop.trips) : Fin 3 → Nat :=
  let c0_279 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v705 : Index := Scalar.indexCast v94
  let c2688_280 : Index := 2688#32
  ![0, v705.toNat, 2688]
def k0_off71 (k0_t1 : Fin k0_t1_loop.trips) : Fin 4 → Nat :=
  let c0_283 : Index := 0#32
  let c0_284 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v718 : Index := Scalar.indexCast v94
  let c2816 : Index := 2816#32
  ![0, 0, v718.toNat, 2816]
def k0_off72 (k0_t1 : Fin k0_t1_loop.trips) : Fin 4 → Nat :=
  let c1_285 : Index := 1#32
  let c0_286 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v722 : Index := Scalar.indexCast v94
  let c2816_287 : Index := 2816#32
  ![1, 0, v722.toNat, 2816]
def k0_off73 (k0_t1 : Fin k0_t1_loop.trips) : Fin 3 → Nat :=
  let c0_290 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v733 : Index := Scalar.indexCast v94
  let c2816_291 : Index := 2816#32
  ![0, v733.toNat, 2816]
def k0_off74 (k0_t1 : Fin k0_t1_loop.trips) : Fin 4 → Nat :=
  let c0_294 : Index := 0#32
  let c0_295 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v746 : Index := Scalar.indexCast v94
  let c2944 : Index := 2944#32
  ![0, 0, v746.toNat, 2944]
def k0_off75 (k0_t1 : Fin k0_t1_loop.trips) : Fin 4 → Nat :=
  let c1_296 : Index := 1#32
  let c0_297 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v750 : Index := Scalar.indexCast v94
  let c2944_298 : Index := 2944#32
  ![1, 0, v750.toNat, 2944]
def k0_off76 (k0_t1 : Fin k0_t1_loop.trips) : Fin 3 → Nat :=
  let c0_301 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v761 : Index := Scalar.indexCast v94
  let c2944_302 : Index := 2944#32
  ![0, v761.toNat, 2944]
def k0_off77 (k0_t1 : Fin k0_t1_loop.trips) : Fin 4 → Nat :=
  let c0_305 : Index := 0#32
  let c0_306 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v774 : Index := Scalar.indexCast v94
  let c3072 : Index := 3072#32
  ![0, 0, v774.toNat, 3072]
def k0_off78 (k0_t1 : Fin k0_t1_loop.trips) : Fin 4 → Nat :=
  let c1_307 : Index := 1#32
  let c0_308 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v778 : Index := Scalar.indexCast v94
  let c3072_309 : Index := 3072#32
  ![1, 0, v778.toNat, 3072]
def k0_off79 (k0_t1 : Fin k0_t1_loop.trips) : Fin 3 → Nat :=
  let c0_312 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v789 : Index := Scalar.indexCast v94
  let c3072_313 : Index := 3072#32
  ![0, v789.toNat, 3072]
def k0_off80 (k0_t1 : Fin k0_t1_loop.trips) : Fin 4 → Nat :=
  let c0_316 : Index := 0#32
  let c0_317 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v802 : Index := Scalar.indexCast v94
  let c3200 : Index := 3200#32
  ![0, 0, v802.toNat, 3200]
def k0_off81 (k0_t1 : Fin k0_t1_loop.trips) : Fin 4 → Nat :=
  let c1_318 : Index := 1#32
  let c0_319 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v806 : Index := Scalar.indexCast v94
  let c3200_320 : Index := 3200#32
  ![1, 0, v806.toNat, 3200]
def k0_off82 (k0_t1 : Fin k0_t1_loop.trips) : Fin 3 → Nat :=
  let c0_323 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v817 : Index := Scalar.indexCast v94
  let c3200_324 : Index := 3200#32
  ![0, v817.toNat, 3200]
def k0_off83 (k0_t1 : Fin k0_t1_loop.trips) : Fin 4 → Nat :=
  let c0_327 : Index := 0#32
  let c0_328 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v830 : Index := Scalar.indexCast v94
  let c3328 : Index := 3328#32
  ![0, 0, v830.toNat, 3328]
def k0_off84 (k0_t1 : Fin k0_t1_loop.trips) : Fin 4 → Nat :=
  let c1_329 : Index := 1#32
  let c0_330 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v834 : Index := Scalar.indexCast v94
  let c3328_331 : Index := 3328#32
  ![1, 0, v834.toNat, 3328]
def k0_off85 (k0_t1 : Fin k0_t1_loop.trips) : Fin 3 → Nat :=
  let c0_334 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v845 : Index := Scalar.indexCast v94
  let c3328_335 : Index := 3328#32
  ![0, v845.toNat, 3328]
def k0_off86 (k0_t1 : Fin k0_t1_loop.trips) : Fin 4 → Nat :=
  let c0_338 : Index := 0#32
  let c0_339 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v858 : Index := Scalar.indexCast v94
  let c3456 : Index := 3456#32
  ![0, 0, v858.toNat, 3456]
def k0_off87 (k0_t1 : Fin k0_t1_loop.trips) : Fin 4 → Nat :=
  let c1_340 : Index := 1#32
  let c0_341 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v862 : Index := Scalar.indexCast v94
  let c3456_342 : Index := 3456#32
  ![1, 0, v862.toNat, 3456]
def k0_off88 (k0_t1 : Fin k0_t1_loop.trips) : Fin 3 → Nat :=
  let c0_345 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v873 : Index := Scalar.indexCast v94
  let c3456_346 : Index := 3456#32
  ![0, v873.toNat, 3456]
def k0_off89 (k0_t1 : Fin k0_t1_loop.trips) : Fin 4 → Nat :=
  let c0_349 : Index := 0#32
  let c0_350 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v886 : Index := Scalar.indexCast v94
  let c3584 : Index := 3584#32
  ![0, 0, v886.toNat, 3584]
def k0_off90 (k0_t1 : Fin k0_t1_loop.trips) : Fin 4 → Nat :=
  let c1_351 : Index := 1#32
  let c0_352 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v890 : Index := Scalar.indexCast v94
  let c3584_353 : Index := 3584#32
  ![1, 0, v890.toNat, 3584]
def k0_off91 (k0_t1 : Fin k0_t1_loop.trips) : Fin 3 → Nat :=
  let c0_356 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v901 : Index := Scalar.indexCast v94
  let c3584_357 : Index := 3584#32
  ![0, v901.toNat, 3584]
def k0_off92 (k0_t1 : Fin k0_t1_loop.trips) : Fin 4 → Nat :=
  let c0_360 : Index := 0#32
  let c0_361 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v914 : Index := Scalar.indexCast v94
  let c3712 : Index := 3712#32
  ![0, 0, v914.toNat, 3712]
def k0_off93 (k0_t1 : Fin k0_t1_loop.trips) : Fin 4 → Nat :=
  let c1_362 : Index := 1#32
  let c0_363 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v918 : Index := Scalar.indexCast v94
  let c3712_364 : Index := 3712#32
  ![1, 0, v918.toNat, 3712]
def k0_off94 (k0_t1 : Fin k0_t1_loop.trips) : Fin 3 → Nat :=
  let c0_367 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v929 : Index := Scalar.indexCast v94
  let c3712_368 : Index := 3712#32
  ![0, v929.toNat, 3712]
def k0_off95 (k0_t1 : Fin k0_t1_loop.trips) : Fin 4 → Nat :=
  let c0_371 : Index := 0#32
  let c0_372 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v942 : Index := Scalar.indexCast v94
  let c3840 : Index := 3840#32
  ![0, 0, v942.toNat, 3840]
def k0_off96 (k0_t1 : Fin k0_t1_loop.trips) : Fin 4 → Nat :=
  let c1_373 : Index := 1#32
  let c0_374 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v946 : Index := Scalar.indexCast v94
  let c3840_375 : Index := 3840#32
  ![1, 0, v946.toNat, 3840]
def k0_off97 (k0_t1 : Fin k0_t1_loop.trips) : Fin 3 → Nat :=
  let c0_378 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v957 : Index := Scalar.indexCast v94
  let c3840_379 : Index := 3840#32
  ![0, v957.toNat, 3840]
def k0_off98 (k0_t1 : Fin k0_t1_loop.trips) : Fin 4 → Nat :=
  let c0_382 : Index := 0#32
  let c0_383 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v970 : Index := Scalar.indexCast v94
  let c3968 : Index := 3968#32
  ![0, 0, v970.toNat, 3968]
def k0_off99 (k0_t1 : Fin k0_t1_loop.trips) : Fin 4 → Nat :=
  let c1_384 : Index := 1#32
  let c0_385 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v974 : Index := Scalar.indexCast v94
  let c3968_386 : Index := 3968#32
  ![1, 0, v974.toNat, 3968]
def k0_off100 (k0_t1 : Fin k0_t1_loop.trips) : Fin 3 → Nat :=
  let c0_389 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v985 : Index := Scalar.indexCast v94
  let c3968_390 : Index := 3968#32
  ![0, v985.toNat, 3968]
def k0_off101 (k0_t1 : Fin k0_t1_loop.trips) : Fin 4 → Nat :=
  let c0_393 : Index := 0#32
  let c0_394 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v998 : Index := Scalar.indexCast v94
  let c4096 : Index := 4096#32
  ![0, 0, v998.toNat, 4096]
def k0_off102 (k0_t1 : Fin k0_t1_loop.trips) : Fin 4 → Nat :=
  let c1_395 : Index := 1#32
  let c0_396 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1002 : Index := Scalar.indexCast v94
  let c4096_397 : Index := 4096#32
  ![1, 0, v1002.toNat, 4096]
def k0_off103 (k0_t1 : Fin k0_t1_loop.trips) : Fin 3 → Nat :=
  let c0_400 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1013 : Index := Scalar.indexCast v94
  let c4096_401 : Index := 4096#32
  ![0, v1013.toNat, 4096]
def k0_off104 (k0_t1 : Fin k0_t1_loop.trips) : Fin 4 → Nat :=
  let c0_404 : Index := 0#32
  let c0_405 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1026 : Index := Scalar.indexCast v94
  let c4224 : Index := 4224#32
  ![0, 0, v1026.toNat, 4224]
def k0_off105 (k0_t1 : Fin k0_t1_loop.trips) : Fin 4 → Nat :=
  let c1_406 : Index := 1#32
  let c0_407 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1030 : Index := Scalar.indexCast v94
  let c4224_408 : Index := 4224#32
  ![1, 0, v1030.toNat, 4224]
def k0_off106 (k0_t1 : Fin k0_t1_loop.trips) : Fin 3 → Nat :=
  let c0_411 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1041 : Index := Scalar.indexCast v94
  let c4224_412 : Index := 4224#32
  ![0, v1041.toNat, 4224]
def k0_off107 (k0_t1 : Fin k0_t1_loop.trips) : Fin 4 → Nat :=
  let c0_415 : Index := 0#32
  let c0_416 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1054 : Index := Scalar.indexCast v94
  let c4352 : Index := 4352#32
  ![0, 0, v1054.toNat, 4352]
def k0_off108 (k0_t1 : Fin k0_t1_loop.trips) : Fin 4 → Nat :=
  let c1_417 : Index := 1#32
  let c0_418 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1058 : Index := Scalar.indexCast v94
  let c4352_419 : Index := 4352#32
  ![1, 0, v1058.toNat, 4352]
def k0_off109 (k0_t1 : Fin k0_t1_loop.trips) : Fin 3 → Nat :=
  let c0_422 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1069 : Index := Scalar.indexCast v94
  let c4352_423 : Index := 4352#32
  ![0, v1069.toNat, 4352]
def k0_off110 (k0_t1 : Fin k0_t1_loop.trips) : Fin 4 → Nat :=
  let c0_426 : Index := 0#32
  let c0_427 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1082 : Index := Scalar.indexCast v94
  let c4480 : Index := 4480#32
  ![0, 0, v1082.toNat, 4480]
def k0_off111 (k0_t1 : Fin k0_t1_loop.trips) : Fin 4 → Nat :=
  let c1_428 : Index := 1#32
  let c0_429 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1086 : Index := Scalar.indexCast v94
  let c4480_430 : Index := 4480#32
  ![1, 0, v1086.toNat, 4480]
def k0_off112 (k0_t1 : Fin k0_t1_loop.trips) : Fin 3 → Nat :=
  let c0_433 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1097 : Index := Scalar.indexCast v94
  let c4480_434 : Index := 4480#32
  ![0, v1097.toNat, 4480]
def k0_off113 (k0_t1 : Fin k0_t1_loop.trips) : Fin 4 → Nat :=
  let c0_437 : Index := 0#32
  let c0_438 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1110 : Index := Scalar.indexCast v94
  let c4608 : Index := 4608#32
  ![0, 0, v1110.toNat, 4608]
def k0_off114 (k0_t1 : Fin k0_t1_loop.trips) : Fin 4 → Nat :=
  let c1_439 : Index := 1#32
  let c0_440 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1114 : Index := Scalar.indexCast v94
  let c4608_441 : Index := 4608#32
  ![1, 0, v1114.toNat, 4608]
def k0_off115 (k0_t1 : Fin k0_t1_loop.trips) : Fin 3 → Nat :=
  let c0_444 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1125 : Index := Scalar.indexCast v94
  let c4608_445 : Index := 4608#32
  ![0, v1125.toNat, 4608]
def k0_off116 (k0_t1 : Fin k0_t1_loop.trips) : Fin 4 → Nat :=
  let c0_448 : Index := 0#32
  let c0_449 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1138 : Index := Scalar.indexCast v94
  let c4736 : Index := 4736#32
  ![0, 0, v1138.toNat, 4736]
def k0_off117 (k0_t1 : Fin k0_t1_loop.trips) : Fin 4 → Nat :=
  let c1_450 : Index := 1#32
  let c0_451 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1142 : Index := Scalar.indexCast v94
  let c4736_452 : Index := 4736#32
  ![1, 0, v1142.toNat, 4736]
def k0_off118 (k0_t1 : Fin k0_t1_loop.trips) : Fin 3 → Nat :=
  let c0_455 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1153 : Index := Scalar.indexCast v94
  let c4736_456 : Index := 4736#32
  ![0, v1153.toNat, 4736]
def k0_off119 (k0_t1 : Fin k0_t1_loop.trips) : Fin 4 → Nat :=
  let c0_459 : Index := 0#32
  let c0_460 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1166 : Index := Scalar.indexCast v94
  let c4864 : Index := 4864#32
  ![0, 0, v1166.toNat, 4864]
def k0_off120 (k0_t1 : Fin k0_t1_loop.trips) : Fin 4 → Nat :=
  let c1_461 : Index := 1#32
  let c0_462 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1170 : Index := Scalar.indexCast v94
  let c4864_463 : Index := 4864#32
  ![1, 0, v1170.toNat, 4864]
def k0_off121 (k0_t1 : Fin k0_t1_loop.trips) : Fin 3 → Nat :=
  let c0_466 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1181 : Index := Scalar.indexCast v94
  let c4864_467 : Index := 4864#32
  ![0, v1181.toNat, 4864]
def k0_off122 (k0_t1 : Fin k0_t1_loop.trips) : Fin 4 → Nat :=
  let c0_470 : Index := 0#32
  let c0_471 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1194 : Index := Scalar.indexCast v94
  let c4992 : Index := 4992#32
  ![0, 0, v1194.toNat, 4992]
def k0_off123 (k0_t1 : Fin k0_t1_loop.trips) : Fin 4 → Nat :=
  let c1_472 : Index := 1#32
  let c0_473 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1198 : Index := Scalar.indexCast v94
  let c4992_474 : Index := 4992#32
  ![1, 0, v1198.toNat, 4992]
def k0_off124 (k0_t1 : Fin k0_t1_loop.trips) : Fin 3 → Nat :=
  let c0_477 : Index := 0#32
  let c0_i32_28 : BitVec 32 := 0#32
  let c1_i32_29 : BitVec 32 := 1#32
  let arg16 : BitVec 32 := Scf.iv c0_i32_28 c1_i32_29 k0_t1
  let c32_i32 : BitVec 32 := 32#32
  let v93 : BitVec 32 := Scalar.muli arg16 c32_i32
  let v94 : BitVec 32 := v93
  let v1209 : Index := Scalar.indexCast v94
  let c4992_478 : Index := 4992#32
  ![0, v1209.toNat, 4992]
def k0_cond2 (i : grid0.Coords) : BitVec 1 :=
  let arg0 : BitVec 32 := BitVec.ofNat 32 (i 0).val
  let c15_i32 : BitVec 32 := 15#32
  let v88 : BitVec 1 := Scalar.cmpi .eq arg0 c15_i32
  let arg1 : BitVec 32 := BitVec.ofNat 32 (i 1).val
  let c4_i32_33 : BitVec 32 := 4#32
  let v89 : BitVec 1 := Scalar.cmpi .eq arg1 c4_i32_33
  let v90 : BitVec 1 := Scalar.andi v88 v89
  let v91 : BitVec 32 := Scalar.extui v90
  let c0_i32_34 : BitVec 32 := 0#32
  let v92 : BitVec 1 := Scalar.cmpi .ne v91 c0_i32_34
  v92

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x16x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x1x128x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "inv_d" => some ((1 / 5120 : ℝ) : EReal)
  | _ => none
-- ==== ReferenceIdeal.lean ====
abbrev S2x16x640x5120 : Shape := ⟨4, ![2, 16, 640, 5120]⟩
abbrev S2x16x640 : Shape := ⟨3, ![2, 16, 640]⟩
abbrev S5120 : Shape := ⟨1, ![5120]⟩
abbrev S16x640x5120 : Shape := ⟨3, ![16, 640, 5120]⟩
abbrev S16 : Shape := ⟨1, ![16]⟩
abbrev S1 : Shape := ⟨1, ![1]⟩
abbrev S2x16x640x1 : Shape := ⟨4, ![2, 16, 640, 1]⟩
abbrev S1x1x5120 : Shape := ⟨3, ![1, 1, 5120]⟩
abbrev S16x640 : Shape := ⟨2, ![16, 640]⟩
abbrev S16x640x1 : Shape := ⟨3, ![16, 640, 1]⟩
abbrev S1x16x640x5120 : Shape := ⟨4, ![1, 16, 640, 5120]⟩
abbrev S1x1x1x1 : Shape := ⟨4, ![1, 1, 1, 1]⟩
abbrev S15 : Shape := ⟨1, ![15]⟩
abbrev S1x16 : Shape := ⟨2, ![1, 16]⟩
abbrev S1x1 : Shape := ⟨2, ![1, 1]⟩
abbrev S1x254 : Shape := ⟨2, ![1, 254]⟩
abbrev S1x1x1 : Shape := ⟨3, ![1, 1, 1]⟩

abbrev nBuf : Space → Nat
  | .hbm => 11
  | .vmem => 11
  | .smem => 0
  | _ => 0

abbrev bufTy : (tb : Table) → Fin (tcTables nBuf tb) → BufTy
  | .hbm, ⟨0, _⟩ => ⟨S2x16x640x5120, .fp8e4m3⟩
  | .hbm, ⟨1, _⟩ => ⟨S2x16x640, .f32⟩
  | .hbm, ⟨2, _⟩ => ⟨S5120, .f32⟩
  | .hbm, ⟨3, _⟩ => ⟨S16x640x5120, .bf16⟩
  | .hbm, ⟨4, _⟩ => ⟨S5120, .f32⟩
  | .hbm, ⟨5, _⟩ => ⟨S16, .f32⟩
  | .hbm, ⟨6, _⟩ => ⟨S16x640x5120, .bf16⟩
  | .hbm, ⟨7, _⟩ => ⟨S1, .f32⟩
  | .hbm, ⟨8, _⟩ => ⟨S16, .f32⟩
  | .hbm, ⟨9, _⟩ => ⟨S16x640x5120, .fp8e4m3⟩
  | .hbm, ⟨10, _⟩ => ⟨S1, .f32⟩
  | .local _ .vmem, ⟨0, _⟩ => ⟨S2x16x640x5120, .fp8e4m3⟩
  | .local _ .vmem, ⟨1, _⟩ => ⟨S2x16x640, .f32⟩
  | .local _ .vmem, ⟨2, _⟩ => ⟨S5120, .f32⟩
  | .local _ .vmem, ⟨3, _⟩ => ⟨S16x640x5120, .bf16⟩
  | .local _ .vmem, ⟨4, _⟩ => ⟨S5120, .f32⟩
  | .local _ .vmem, ⟨5, _⟩ => ⟨S16, .f32⟩
  | .local _ .vmem, ⟨6, _⟩ => ⟨S16x640x5120, .bf16⟩
  | .local _ .vmem, ⟨7, _⟩ => ⟨S1, .f32⟩
  | .local _ .vmem, ⟨8, _⟩ => ⟨S16, .f32⟩
  | .local _ .vmem, ⟨9, _⟩ => ⟨S16x640x5120, .fp8e4m3⟩
  | .local _ .vmem, ⟨10, _⟩ => ⟨S1, .f32⟩
  | _, _ => ⟨S2x16x640x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x16x640x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x640x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x640x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x640x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.K.Setup.lean ====
/- What the runs of the kernel share: @main up to its one region, the windows' blocks, the branch conditions and the staging buffers. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Tile

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 5 rfl).trans ((hA c 5).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 6 rfl).trans ((hA c 6).trans (V_main_arg3 m c)),
      ((h c).2 main_arg4 (Pipeline.mem_restRefs_of main_arg4 (by decide) (by decide))).trans (V_main_arg4 m c),
      (Pipeline.RDat.FramePost.arr_in h c 0 rfl).trans ((hA c 0).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 80 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 80 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 80 = 79 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val % 80 = 79)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x16x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x128x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x5120 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x5120 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x5120 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S1 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x128x128 .f32 := Memref.whole cc0_scratch0
abbrev scM0_1 : Memref sig .tc .vmem S32x128 .f32 := Memref.whole cc0_scratch1
/-- The scratch `arg15` the kernel carries between points, as a view: what it holds is stated through it. -/
abbrev VS0_1 : View sig .tc .vmem S32x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Tile

end
-- ==== Proof.K.Run.lean ====
/- One run of the whole body of the kernel, at any grid point: it ends, its inputs as they were. -/
module

public import proofs.«01_k».proof.Proof.K.Setup

@[expose] public section

-- membership in a rectangle of production extents (`View.cover_of_tiled`): the elaborator's structural look
-- recurses once per coordinate of the long axes
set_option maxRecDepth 16384

noncomputable section

namespace Cert.Kernel.Tile

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging memrefs, the inputs' at their contents and all the others at anything, the body runs to the
    continuation, which holds the inputs' as they were and the others at some contents. -/
theorem run (c : Dev nD) (i : grid0.Coords) (arg2 : Memref sig .tc .smem S16 .f32) (harg2 : arg2.IsWhole) (arg3 : Memref sig .tc .vmem S2x16x640 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x16 .f32) (harg6 : arg6.IsWhole) (arg7 : Memref sig .tc .vmem S2x1x128x5120 .fp8e4m3) (harg7 : arg7.IsWhole) (arg8 : Memref sig .tc .vmem S1x128x5120 .bf16) (harg8 : arg8.IsWhole) (arg9 : Memref sig .tc .vmem S1x128x5120 .bf16) (harg9 : arg9.IsWhole) (arg10 : Memref sig .tc .smem S1 .f32) (harg10 : arg10.IsWhole) (arg11 : Memref sig .tc .smem S16 .f32) (harg11 : arg11.IsWhole) (arg12 : Memref sig .tc .vmem S1x128x5120 .fp8e4m3) (harg12 : arg12.IsWhole) (arg13 : Memref sig .tc .smem S1 .f32) (harg13 : arg13.IsWhole) (arg14 : Memref sig .tc .vmem S2x128x128 .f32) (harg14 : arg14.IsWhole) (arg15 : Memref sig .tc .vmem S32x128 .f32) (harg15 : arg15.IsWhole)
    (x0 : Vec F S16 .f32) (x1 : Vec F S2x16x640 .f32) (x2 : Vec F S1x5120 .f32) (x3 : Vec F S1x5120 .f32) (x4 : Vec F S1x16 .f32) (x5 : Vec F S2x1x128x5120 .fp8e4m3) (x6 : Vec F S1x128x5120 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_residual_rmsnorm_quant i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_residual_rmsnorm_quant_eq_skeleton]; unfold cc0_residual_rmsnorm_quant_skel
  simp only [k0_part50_eq_skeleton, k0_part51_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  iexists _, _; isplitr; swap; · iexact HS1
  ipureintro; rfl

end Cert.Kernel.Tile

end
-- ==== Proof.K.Frame.lean ====
/- The frame of the kernel: run to its end, arguments unchanged. -/
module

public import proofs.«01_k».proof.Proof.K.Run
public import Idealize.ShloMosaic.Lib.Claim

@[expose] public section

-- membership in a rectangle of production extents (`View.cover_of_tiled`): the elaborator's structural look
-- recurses once per coordinate of the long axes
set_option maxRecDepth 16384

noncomputable section

namespace Cert.Kernel.Tile

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9, 10, 11): nothing reads what the kernel leaves in them, so nothing
    of it is named (Lib/Pipeline/Dat.lean `Dat.toRForget`). -/
def forgets0 : Fin 12 → Bool := fun w => w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's,
    every scratch at anything;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 4000000 in
/-- The body at any point: the inputs' memrefs hold their blocks (`before0_W`), so the run applies; the scratch and the
    generator register are at some state before and after; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The invariant is the launch's at every point. -/
theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame: every weakly fair execution ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Tile

end
-- ==== Proof.KI.Block.lean ====
/- What one tile of the kernel computes, over the extended reals: the residual row, its scale, the
   normalised row and its code; and one chunk of 32 rows and 128 columns of the kernel's text read
   at an index. -/
module

public import proofs.«01_k».proof.Proof.Gen.KernelIdeal.Loops
public import Idealize.ShloMosaic.Lib.Pointwise
public import Idealize.ShloMosaic.Lib.Pipeline.Value

@[expose] public section
set_option maxRecDepth 16384
noncomputable section
namespace Cert.KernelIdeal.Tile
open Cert.KernelIdeal Cert.KernelIdeal.Gen Idealize.ShloMosaic Idealize.ShloMosaic.TcCoe

/-- The residual at row `r`, column `d` of a tile: both partials times their row scales, the bias, the input. -/
def res (sc : Fin 2 → Fin 128 → EReal) (b : Vec Ideal S1x5120 .f32) (p : Vec Ideal S2x1x128x5120 .fp8e4m3)
    (x : Vec Ideal S1x128x5120 .bf16) (r : Fin 128) (d : Fin 5120) : EReal :=
  (p (ix4 0 0 r d) : EReal) * sc 0 r + (p (ix4 1 0 r d) : EReal) * sc 1 r + (b (ix2 0 d) : EReal) + (x (ix3 0 r d) : EReal)

/-- The reciprocal root of a row's mean square (plus the small constant). -/
def rs (h : Fin 5120 → EReal) : EReal :=
  Ideal.rsqrt ((∑ d, h d * h d) * ((1 / 5120 : ℝ) : EReal) + Ideal.ofBits .f32 0x358637BD#32)

/-- The normalised row times the gain. -/
def nrm (h : Fin 5120 → EReal) (g : Vec Ideal S1x5120 .f32) (d : Fin 5120) : EReal :=
  h d * rs h * (g (ix2 0 d) : EReal)

/-- The code of a value: clipped to plus or minus 448 after the multiplication by the inverse scale. -/
def code (inv y : EReal) : EReal :=
  min (Ideal.ofBits .f32 0x43E00000#32) (max (Ideal.ofBits .f32 0xC3E00000#32) (y * inv))

/-- Row `r` of the 32 rows of trip `k`. -/
abbrev row (k : Fin 4) (r : Fin 32) : Fin 128 := ⟨32 * k.val + r.val, by omega⟩
/-- Lane `l` of chunk `j` of the columns. -/
abbrev col (j : Fin 40) (l : Fin 128) : Fin 5120 := ⟨128 * j.val + l.val, by omega⟩

/-- One chunk of the residual as the kernel computes it. -/
def resT (s0 s1 : FVec Ideal S32x128 .f32) (p0 p1 : Vec Ideal S1x1x32x128 .fp8e4m3) (b : Vec Ideal S1x128 .f32)
    (x : Vec Ideal S1x32x128 .bf16) : FVec Ideal S32x128 .bf16 :=
  truncf .bf16 (addf (addf (addf (mulf (extf .f32 (shapeCast S32x128 p0 shapeCasts_S1x1x32x128_S32x128) bitsLt_fp8e4m3_f32) s0)
    (mulf (extf .f32 (shapeCast S32x128 p1 shapeCasts_S1x1x32x128_S32x128) bitsLt_fp8e4m3_f32) s1))
    (broadcastTo S32x128 (shapeCast S1x128 b shapeCasts_S1x128_S1x128) broadcasts_S1x128_S32x128))
    (extf .f32 (shapeCast S32x128 x shapeCasts_S1x32x128_S32x128) bitsLt_bf16_f32)) bitsLt_bf16_f32

theorem resT_apply (s0 s1 : FVec Ideal S32x128 .f32) (p0 p1 : Vec Ideal S1x1x32x128 .fp8e4m3) (b : Vec Ideal S1x128 .f32)
    (x : Vec Ideal S1x32x128 .bf16) (r : Fin 32) (l : Fin 128) :
    resT s0 s1 p0 p1 b x (ix2 r l) = (p0 (ix4 0 0 r l) : EReal) * s0 (ix2 r l) + (p1 (ix4 0 0 r l) : EReal) * s1 (ix2 r l)
      + (b (ix2 0 l) : EReal) + (x (ix3 0 r l) : EReal) := by
  pointwise [resT]

/-- One chunk of the normalised rows as the kernel computes it, from the residual it loads back. -/
def nrmT (q : FVec Ideal S32x128 .f32) (h : Vec Ideal S1x32x128 .bf16) (g : Vec Ideal S1x128 .f32) : FVec Ideal S32x128 .f32 :=
  mulf (mulf (extf .f32 (shapeCast S32x128 h shapeCasts_S1x32x128_S32x128) bitsLt_bf16_f32) q)
    (broadcastTo S32x128 (shapeCast S1x128 g shapeCasts_S1x128_S1x128) broadcasts_S1x128_S32x128)

theorem nrmT_apply (q : FVec Ideal S32x128 .f32) (h : Vec Ideal S1x32x128 .bf16) (g : Vec Ideal S1x128 .f32) (r : Fin 32) (l : Fin 128) :
    nrmT q h g (ix2 r l) = (h (ix3 0 r l) : EReal) * q (ix2 r l) * (g (ix2 0 l) : EReal) := by
  pointwise [nrmT]

/-- One chunk of the codes as the kernel computes it. -/
def codeT (v45 y : FVec Ideal S32x128 .f32) : FVec Ideal S1x32x128 .fp8e4m3 :=
  shapeCast S1x32x128 (truncf .fp8e4m3 (minimumf (broadcast S32x128 (Scalar.ofBits .f32 0x43E00000#32))
    (maximumf (broadcast S32x128 (Scalar.ofBits .f32 0xC3E00000#32)) (mulf y v45))) bitsLt_fp8e4m3_f32) shapeCasts_S32x128_S1x32x128

theorem codeT_apply (v45 y : FVec Ideal S32x128 .f32) (z : Fin 1) (r : Fin 32) (l : Fin 128) :
    codeT v45 y (ix3 z r l) = code (v45 (ix2 r l)) (y (ix2 r l)) := by
  pointwise [codeT, code]

/-- A chunk re-laid for its store. -/
theorem relay_apply (v : FVec Ideal S32x128 .bf16) (z : Fin 1) (r : Fin 32) (l : Fin 128) :
    shapeCast S1x32x128 v shapeCasts_S32x128_S1x32x128 (ix3 z r l) = v (ix2 r l) := by
  pointwise

/-- The row scale as the kernel computes it from the accumulated squares. -/
def rsT (a : FVec Ideal S32x128 .f32) : FVec Ideal S32x128 .f32 :=
  broadcastTo S32x128 (shapeCast S32x1 (rsqrt (addf (mulf (shapeCast S32x1 (multiReduction .add [1] S32 a 0x00000000#32 reduces_S32x128_S32 (.inl rfl) rfl) shapeCasts_S32_S32x1)
    (broadcast S32x1 (Named.named κ "inv_d" 0x394CCCCD#32))) (broadcast S32x1 (Scalar.ofBits .f32 0x358637BD#32)))) shapeCasts_S32x1_S32x1) broadcasts_S32x1_S32x128

theorem rsT_apply (a : FVec Ideal S32x128 .f32) (r : Fin 32) (l : Fin 128) :
    rsT a (ix2 r l) = Ideal.rsqrt ((∑ m : Fin 128, (a (ix2 r m) : EReal)) * ((1 / 5120 : ℝ) : EReal) + Ideal.ofBits .f32 0x358637BD#32) := by
  pointwise [rsT]
  rw [IdealRules.named_const.ideal_named_scalar κ "inv_d" (φ := .f32) 0x394CCCCD#32 ((1 / 5120 : ℝ) : EReal) rfl]

/-- A sum over lanes of sums over chunks is the sum over the columns. -/
theorem sum_cols (f : Fin 5120 → EReal) : ∑ l : Fin 128, ∑ j : Fin 40, f (col j l) = ∑ d, f d := by
  rw [Finset.sum_comm, ← Fintype.sum_prod_type' (f := fun (j : Fin 40) (l : Fin 128) => f (col j l))]
  refine Fintype.sum_equiv (finProdFinEquiv (m := 40) (n := 128)) _ (fun d : Fin (40 * 128) => f d) fun x => ?_
  congr 1
  exact Fin.ext (by simp [finProdFinEquiv, add_comm])

end Cert.KernelIdeal.Tile
-- ==== Proof.KI.Chunk.lean ====
/- One chunk of a trip in the kernel's loop: what it loads, the residual it stores, the squares it
   adds, what it loads back, the maximum it keeps and the codes it stores. -/
module

public import proofs.«01_k».proof.Proof.KI.Block

@[expose] public section
set_option maxRecDepth 16384
noncomputable section
namespace Cert.KernelIdeal.Tile
open Cert.KernelIdeal Cert.KernelIdeal.Gen Idealize.ShloMosaic Idealize.ShloMosaic.TcCoe

/-- Row `r` of the 32 rows of trip `k`. -/
abbrev trow (k : Fin k0_t1_loop.trips) (r : Fin 32) : Fin 128 :=
  ⟨32 * k.val + r.val, by have := k.isLt; have := k0_t1_abs.2.1; omega⟩
/-- Lane `l` of the 128 columns from `c` on. -/
abbrev lane (c : ℕ) (hc : c + 128 ≤ 5120) (l : Fin 128) : Fin 5120 := ⟨c + l.val, by omega⟩

/-! ### Loads through a chunk's rectangle -/

theorem idx_rows (o : Fin 3 → ℕ) (h) (k : Fin k0_t1_loop.trips) (c : ℕ) (hc : c + 128 ≤ 5120)
    (ho : o = ![0, 32 * k.val, c]) (z : Fin 1) (r : Fin 32) (l : Fin 128) :
    (Rect.unit (s := S1x128x5120) o S1x32x128.size h).idx (ix3 z r l) = ix3 0 (trow k r) (lane c hc l) := by
  subst ho
  refine funext fun a => Fin.ext ?_
  fin_cases a <;> simp

theorem ld_rows {e : EltTy} (X : Vec Ideal S1x128x5120 e) (o : Fin 3 → ℕ) (h) (k : Fin k0_t1_loop.trips) (c : ℕ) (hc : c + 128 ≤ 5120)
    (ho : o = ![0, 32 * k.val, c]) (z : Fin 1) (r : Fin 32) (l : Fin 128) :
    View.ld X (Rect.unit (s := S1x128x5120) o S1x32x128.size h) (ix3 z r l) = X (ix3 0 (trow k r) (lane c hc l)) := by
  exact congrArg X (idx_rows o h k c hc ho z r l)

theorem ld_part {e : EltTy} (X : Vec Ideal S2x1x128x5120 e) (s : Fin 2) (o : Fin 4 → ℕ) (h) (k : Fin k0_t1_loop.trips) (c : ℕ) (hc : c + 128 ≤ 5120)
    (ho : o = ![s.val, 0, 32 * k.val, c]) (r : Fin 32) (l : Fin 128) :
    View.ld X (Rect.unit (s := S2x1x128x5120) o S1x1x32x128.size h) (ix4 0 0 r l) = X (ix4 s 0 (trow k r) (lane c hc l)) := by
  subst ho
  refine congrArg X (funext fun a => Fin.ext ?_)
  fin_cases a <;> simp

theorem ld_cols {e : EltTy} (X : Vec Ideal S1x5120 e) (o : Fin 2 → ℕ) (h) (c : ℕ) (hc : c + 128 ≤ 5120)
    (ho : o = ![0, c]) (l : Fin 128) :
    View.ld X (Rect.unit (s := S1x5120) o S1x128.size h) (ix2 0 l) = X (ix2 0 (lane c hc l)) := by
  subst ho
  refine congrArg X (funext fun a => Fin.ext ?_)
  fin_cases a <;> simp

theorem flat_apply (v : Vec Ideal S1x32x128 .f32) (r : Fin 32) (l : Fin 128) :
    shapeCast S32x128 v shapeCasts_S1x32x128_S32x128 (ix2 r l) = v (ix3 0 r l) := by
  pointwise

theorem ld_scale (X : Vec Ideal S2x128x128 .f32) (s : Fin 2) (o : Fin 3 → ℕ) (h) (k : Fin k0_t1_loop.trips)
    (ho : o = ![s.val, 32 * k.val, 0]) (r : Fin 32) (l : Fin 128) :
    shapeCast S32x128 (View.ld X (Rect.unit (s := S2x128x128) o S1x32x128.size h)) shapeCasts_S1x32x128_S32x128 (ix2 r l)
      = X (ix3 s (trow k r) l) := by
  refine (flat_apply _ r l).trans ?_
  subst ho
  refine congrArg X (funext fun a => Fin.ext ?_)
  fin_cases a <;> simp

/-! ### The residual and the sum of its squares -/

section
variable {arg4 : Memref sig .tc .vmem S1x5120 .f32} {arg7 : Memref sig .tc .vmem S2x1x128x5120 .fp8e4m3} {arg8 : Memref sig .tc .vmem S1x128x5120 .bf16}
  {X4 : BufTy.Contents (Elt Ideal) arg4.view.ty} {X7 : BufTy.Contents (Elt Ideal) arg7.view.ty} {X8 : BufTy.Contents (Elt Ideal) arg8.view.ty}
  {sc : Fin 2 → Fin 128 → EReal} {k : Fin k0_t1_loop.trips}

/-- What a chunk of the residual holds: row `r`, lane `l` of it is `G` at the trip's row and the chunk's column. -/
def Chunk (G : Fin 128 → Fin 5120 → EReal) (k : Fin k0_t1_loop.trips) (c : ℕ) (hc : c + 128 ≤ 5120) (f : FVec Ideal S32x128 .bf16) : Prop :=
  ∀ r l, f (ix2 r l) = G (trow k r) (lane c hc l)

theorem res_chunk {s0 s1 : FVec Ideal S32x128 .f32} (h0 : ∀ r l, s0 (ix2 r l) = sc 0 (trow k r)) (h1 : ∀ r l, s1 (ix2 r l) = sc 1 (trow k r))
    {o5 o6 : Fin 4 → ℕ} {o7 : Fin 3 → ℕ} {ob : Fin 2 → ℕ} {h5 h6 h7 hb} [ClosedOff o5] [ClosedOff o6] [ClosedOff o7] (c : ℕ) (hc : c + 128 ≤ 5120)
    (e5 : ClosedOff.form o5 = ![0, 0, 32 * k.val, c]) (e6 : ClosedOff.form o6 = ![1, 0, 32 * k.val, c]) (e7 : ClosedOff.form o7 = ![0, 32 * k.val, c])
    (eb : ob = ![0, c]) :
    Chunk (res sc (arg4.view.read (Elt Ideal) X4) (arg7.view.read (Elt Ideal) X7) (arg8.view.read (Elt Ideal) X8)) k c hc
      (resT s0 s1 (View.readAt (Elt Ideal) arg7.view (Rect.unit (s := S2x1x128x5120) o5 S1x1x32x128.size h5).toLoadRect X7)
        (View.readAt (Elt Ideal) arg7.view (Rect.unit (s := S2x1x128x5120) o6 S1x1x32x128.size h6).toLoadRect X7)
        (View.readAt (Elt Ideal) arg4.view (Rect.unit (s := S1x5120) ob S1x128.size hb).toLoadRect X4)
        (View.readAt (Elt Ideal) arg8.view (Rect.unit (s := S1x128x5120) o7 S1x32x128.size h7).toLoadRect X8)) := by
  intro r l
  rw [resT_apply, View.readAt_eq_ld, View.readAt_eq_ld, View.readAt_eq_ld, View.readAt_eq_ld, h0, h1,
    ld_part _ 0 o5 h5 k c hc (ClosedOff.eq.trans e5), ld_part _ 1 o6 h6 k c hc (ClosedOff.eq.trans e6),
    ld_cols _ ob hb c hc eb, ld_rows _ o7 h7 k c hc (ClosedOff.eq.trans e7)]
  rfl

end

/-- The value at a column, nothing past the last one. -/
def at5120 (f : Fin 5120 → EReal) (d : ℕ) : EReal := if h : d < 5120 then f ⟨d, h⟩ else 0

/-- The squares of the first `n` chunks of a trip's rows, added up lane by lane. -/
def Squares (G : Fin 128 → Fin 5120 → EReal) (k : Fin k0_t1_loop.trips) (n : ℕ) (a : FVec Ideal S32x128 .f32) : Prop :=
  ∀ r l, a (ix2 r l) = ∑ j ∈ Finset.range n, at5120 (fun d => G (trow k r) d * G (trow k r) d) (128 * j + l.val)

section
variable {G : Fin 128 → Fin 5120 → EReal} {k : Fin k0_t1_loop.trips}

theorem squares_zero : Squares G k 0 (broadcast S32x128 (Scalar.ofBits .f32 0x00000000#32)) := by
  intro r l
  pointwise
  simp

theorem squares_step {n c : ℕ} {a : FVec Ideal S32x128 .f32} {f : FVec Ideal S32x128 .bf16} (ha : Squares G k n a) (hc : c + 128 ≤ 5120)
    (hn : c = 128 * n) (hf : Chunk G k c hc f) :
    Squares G k (n + 1) (addf a (mulf (extf .f32 f bitsLt_bf16_f32) (extf .f32 f bitsLt_bf16_f32))) := by
  intro r l
  subst hn
  rw [Finset.sum_range_succ, ← ha r l, at5120, dif_pos (by omega)]
  have := hf r l
  pointwise
  rw [this]

theorem squares_all {a : FVec Ideal S32x128 .f32} (ha : Squares G k 40 a) (r : Fin 32) (l : Fin 128) : rsT a (ix2 r l) = rs (G (trow k r)) := by
  rw [rsT_apply, rs]
  congr 3
  rw [← sum_cols fun d => G (trow k r) d * G (trow k r) d]
  refine Finset.sum_congr rfl fun m _ => (ha r m).trans ?_
  rw [Finset.sum_range]
  refine Finset.sum_congr rfl fun j _ => ?_
  rw [at5120, dif_pos]

/-! ### Pieces written by the chunks, and a chunk loaded back -/

/-- Every piece holds the part of one block that lies under it. -/
def Under {e : EltTy} (W : S1x128x5120.Idx → Elt Ideal e) (L : List (View.Piece (Elt Ideal) S1x128x5120 e)) : Prop :=
  ∀ p ∈ L, ∀ x : p.1.shape.Idx, p.2 x = W (p.1.emb x)

/-- A piece of chunk `j` of trip `k`. -/
def IsChunk {e : EltTy} (k : Fin k0_t1_loop.trips) (j : ℕ) (p : View.Piece (Elt Ideal) S1x128x5120 e) : Prop :=
  ∃ o h, p.1 = Rect.unit (s := S1x128x5120) o S1x32x128.size h ∧ o = ![0, 32 * k.val, 128 * j]

theorem isChunk {e : EltTy} {o : Fin 3 → ℕ} {h} {w} [ClosedOff o] (j : ℕ) (eo : ClosedOff.form o = ![0, 32 * k.val, 128 * j]) :
    IsChunk (e := e) k j ⟨Rect.unit (s := S1x128x5120) o S1x32x128.size h, w⟩ :=
  ⟨o, h, rfl, ClosedOff.eq.trans eo⟩

theorem covered {e : EltTy} {L : List (View.Piece (Elt Ideal) S1x128x5120 e)} (hL : ∀ j : Fin 40, ∃ p ∈ L, IsChunk k j.val p)
    (r : Fin 32) (d : Fin 5120) (z : Fin 1) : ∃ p ∈ L, (ix3 z (trow k r) d : S1x128x5120.Idx) ∈ p.1.set := by
  obtain ⟨p, hp, o, h, e, ho⟩ := hL ⟨d.val / 128, by omega⟩
  refine ⟨p, hp, ?_⟩
  rw [e, Rect.mem_set_unit]
  subst ho
  intro a
  fin_cases a <;> (simp; try omega)

theorem under_chunk {f : FVec Ideal S32x128 .bf16} {o : Fin 3 → ℕ} {h} [ClosedOff o] (c : ℕ) (hc : c + 128 ≤ 5120)
    (eo : ClosedOff.form o = ![0, 32 * k.val, c]) (hf : Chunk G k c hc f)
    (x : (Rect.unit (s := S1x128x5120) o S1x32x128.size h).shape.Idx) :
    shapeCast S1x32x128 f shapeCasts_S32x128_S1x32x128 x = G ((Rect.unit (s := S1x128x5120) o S1x32x128.size h).emb x 1) ((Rect.unit (s := S1x128x5120) o S1x32x128.size h).emb x 2) := by
  have ho := (ClosedOff.eq (off := o)).trans eo
  subst ho
  rw [show x = (ix3 (n0 := 1) (n1 := 32) (n2 := 128) (x 0) (x 1) (x 2)) from eq_ix3 (n0 := 1) (n1 := 32) (n2 := 128) x]
  refine (relay_apply _ _ _ _).trans ((hf _ _).trans ?_)
  congr 1 <;> exact Fin.ext (by simp)

theorem under_cons {L : List (View.Piece (Elt Ideal) S1x128x5120 .bf16)} {f : FVec Ideal S32x128 .bf16} {o : Fin 3 → ℕ} {h} [ClosedOff o]
    {w : (Rect.unit (s := S1x128x5120) o S1x32x128.size h).shape.Idx → Elt Ideal .bf16} (c : ℕ) (hc : c + 128 ≤ 5120) (hf : Chunk G k c hc f)
    (hw : w = shapeCast S1x32x128 f shapeCasts_S32x128_S1x32x128) (eo : ClosedOff.form o = ![0, 32 * k.val, c])
    (hL : Under (e := .bf16) (fun y => G (y 1) (y 2)) L) :
    Under (e := .bf16) (fun y => G (y 1) (y 2)) (⟨Rect.unit (s := S1x128x5120) o S1x32x128.size h, w⟩ :: L) :=
  List.forall_mem_cons.2 ⟨fun x => (congrFun hw x).trans (under_chunk (o := o) (h := h) c hc eo hf x), hL⟩

theorem load_back {arg9 : Memref sig .tc .vmem S1x128x5120 .bf16} {L : List (View.Piece (Elt Ideal) S1x128x5120 .bf16)}
    (hU : Under (e := .bf16) (fun y => G (y 1) (y 2)) L) (hL : ∀ j : Fin 40, ∃ p ∈ L, IsChunk k j.val p)
    {o : Fin 3 → ℕ} {h} [ClosedOff o] (c : ℕ) (hc : c + 128 ≤ 5120) (eo : ClosedOff.form o = ![0, 32 * k.val, c]) (r : Fin 32) (l : Fin 128) :
    arg9.view.readCov L (Rect.unit (s := S1x128x5120) o S1x32x128.size h).toLoadRect (ix3 0 r l) = G (trow k r) (lane c hc l) := by
  rw [View.readCov_eq_canon']
  refine (congrArg (View.canon L) (idx_rows o h k c hc (ClosedOff.eq.trans eo) 0 r l)).trans ?_
  exact View.canon_apply_of_pieces (S := S1x128x5120) (Val := Elt Ideal) (e := .bf16) (fun y => G (y 1) (y 2)) L hU _ (covered hL r _ 0)

/-! ### The normalised chunk: its maximum and its codes -/

/-- What a chunk of the normalised rows holds. -/
def ChunkN (Y : Fin 128 → Fin 5120 → EReal) (k : Fin k0_t1_loop.trips) (c : ℕ) (hc : c + 128 ≤ 5120) (f : FVec Ideal S32x128 .f32) : Prop :=
  ∀ r l, f (ix2 r l) = Y (trow k r) (lane c hc l)

theorem nrm_chunk {arg5 : Memref sig .tc .vmem S1x5120 .f32} {X5 : BufTy.Contents (Elt Ideal) arg5.view.ty}
    {arg9 : Memref sig .tc .vmem S1x128x5120 .bf16} {L : List (View.Piece (Elt Ideal) S1x128x5120 .bf16)} {q : FVec Ideal S32x128 .f32}
    (hq : ∀ r l, q (ix2 r l) = rs (G (trow k r)))
    (hU : Under (e := .bf16) (fun y => G (y 1) (y 2)) L) (hL : ∀ j : Fin 40, ∃ p ∈ L, IsChunk k j.val p)
    {o : Fin 3 → ℕ} {og : Fin 2 → ℕ} {h hg} [ClosedOff o] (c : ℕ) (hc : c + 128 ≤ 5120) (eo : ClosedOff.form o = ![0, 32 * k.val, c]) (eg : og = ![0, c]) :
    ChunkN (fun r => nrm (G r) (arg5.view.read (Elt Ideal) X5)) k c hc
      (nrmT q (arg9.view.readCov L (Rect.unit (s := S1x128x5120) o S1x32x128.size h).toLoadRect)
        (View.readAt (Elt Ideal) arg5.view (Rect.unit (s := S1x5120) og S1x128.size hg).toLoadRect X5)) := by
  intro r l
  rw [nrmT_apply, load_back hU hL c hc eo, hq, View.readAt_eq_ld, ld_cols _ og hg c hc eg]
  rfl

/-- The running maximum after the first `n` chunks of a trip, lane by lane. -/
def Maxima (Y : Fin 128 → Fin 5120 → EReal) (k : Fin k0_t1_loop.trips) (acc : FVec Ideal S32x128 .f32) (n : ℕ) (a : FVec Ideal S32x128 .f32) : Prop :=
  ∀ r l, a (ix2 r l) = max (acc (ix2 r l) : EReal) ((Finset.range n).sup fun j => at5120 (fun d => max (Y (trow k r) d) (-Y (trow k r) d)) (128 * j + l.val))

theorem maxima_zero {Y : Fin 128 → Fin 5120 → EReal} {acc : FVec Ideal S32x128 .f32} : Maxima Y k acc 0 acc := by
  intro r l
  simp

theorem maxima_step {Y : Fin 128 → Fin 5120 → EReal} {acc a f : FVec Ideal S32x128 .f32} {n c : ℕ} (ha : Maxima Y k acc n a) (hc : c + 128 ≤ 5120)
    (hn : c = 128 * n) (hf : ChunkN Y k c hc f) : Maxima Y k acc (n + 1) (maximumf a (absf f)) := by
  intro r l
  subst hn
  have e := hf r l
  have e' := ha r l
  rw [Finset.range_add_one, Finset.sup_insert, at5120, dif_pos (by omega)]
  pointwise
  rw [e, e']
  exact (max_comm _ _).trans (max_left_comm (max (Y (trow k r) (lane (128 * n) hc l)) (-Y (trow k r) (lane (128 * n) hc l))) _ _)

theorem code_chunk {Y : Fin 128 → Fin 5120 → EReal} {inv : EReal} {v45 f : FVec Ideal S32x128 .f32} (hv : ∀ i, v45 i = inv)
    {o : Fin 3 → ℕ} {h} [ClosedOff o] (c : ℕ) (hc : c + 128 ≤ 5120) (eo : ClosedOff.form o = ![0, 32 * k.val, c]) (hf : ChunkN Y k c hc f)
    (x : (Rect.unit (s := S1x128x5120) o S1x32x128.size h).shape.Idx) :
    codeT v45 f x = code inv (Y ((Rect.unit (s := S1x128x5120) o S1x32x128.size h).emb x 1) ((Rect.unit (s := S1x128x5120) o S1x32x128.size h).emb x 2)) := by
  have ho := (ClosedOff.eq (off := o)).trans eo
  subst ho
  rw [show x = (ix3 (n0 := 1) (n1 := 32) (n2 := 128) (x 0) (x 1) (x 2)) from eq_ix3 (n0 := 1) (n1 := 32) (n2 := 128) x]
  refine (codeT_apply _ _ _ _ _).trans ?_
  rw [hv]
  refine (congrArg (code inv) (hf _ _)).trans ?_
  congr 2 <;> exact Fin.ext (by simp)

theorem under_cons_code {Y : Fin 128 → Fin 5120 → EReal} {inv : EReal} {v45 f : FVec Ideal S32x128 .f32} (hv : ∀ i, v45 i = inv)
    {L : List (View.Piece (Elt Ideal) S1x128x5120 .fp8e4m3)} {o : Fin 3 → ℕ} {h} [ClosedOff o]
    {w : (Rect.unit (s := S1x128x5120) o S1x32x128.size h).shape.Idx → Elt Ideal .fp8e4m3} (c : ℕ) (hc : c + 128 ≤ 5120) (hf : ChunkN Y k c hc f)
    (hw : w = codeT v45 f) (eo : ClosedOff.form o = ![0, 32 * k.val, c])
    (hL : Under (e := .fp8e4m3) (fun y => code inv (Y (y 1) (y 2))) L) :
    Under (e := .fp8e4m3) (fun y => code inv (Y (y 1) (y 2))) (⟨Rect.unit (s := S1x128x5120) o S1x32x128.size h, w⟩ :: L) :=
  List.forall_mem_cons.2 ⟨fun x => (congrFun hw x).trans (code_chunk (o := o) (h := h) hv c hc eo hf x), hL⟩

end
end Cert.KernelIdeal.Tile
-- ==== Proof.KI.Trip.lean ====
/- One trip of the kernel's loop, over the extended reals: the residual rows it stores, the codes it
   stores, and the maximum it hands on. -/
module

public import proofs.«01_k».proof.Proof.KI.Chunk

@[expose] public section
set_option maxRecDepth 16384
set_option maxHeartbeats 4000000
noncomputable section
namespace Cert.KernelIdeal.Tile
open Cert.KernelIdeal Cert.KernelIdeal.Gen Idealize.ShloMosaic Idealize.ShloMosaic.TcCoe

section
variable (arg4 : Memref sig .tc .vmem S1x5120 .f32) (arg5 : Memref sig .tc .vmem S1x5120 .f32) (arg7 : Memref sig .tc .vmem S2x1x128x5120 .fp8e4m3)
  (arg8 : Memref sig .tc .vmem S1x128x5120 .bf16) (arg9 : Memref sig .tc .vmem S1x128x5120 .bf16) (arg14 : Memref sig .tc .vmem S2x128x128 .f32)
  (v45 : FVec Ideal S32x128 .f32)
  (X4 : BufTy.Contents (Elt Ideal) arg4.view.ty) (X5 : BufTy.Contents (Elt Ideal) arg5.view.ty) (X7 : BufTy.Contents (Elt Ideal) arg7.view.ty)
  (X8 : BufTy.Contents (Elt Ideal) arg8.view.ty) (X14 : BufTy.Contents (Elt Ideal) arg14.view.ty) (k : Fin k0_t1_loop.trips)
  (sc : Fin 2 → Fin 128 → EReal)

/-- The scratch holds the row scales, each on all its lanes. -/
def Scaled : Prop := ∀ s r l, arg14.view.read (Elt Ideal) X14 (ix3 s r l) = sc s r

/-- The residual of the block the memrefs hold. -/
abbrev RES : Fin 128 → Fin 5120 → EReal := res sc (arg4.view.read (Elt Ideal) X4) (arg7.view.read (Elt Ideal) X7) (arg8.view.read (Elt Ideal) X8)

variable {arg14 X14 sc} (hS : Scaled arg14 X14 sc)
include hS

theorem v97_apply (r : Fin 32) (l : Fin 128) : trip_k0_t1.sl.v97 (F := Ideal) arg14 X14 k (ix2 r l) = sc 0 (trow k r) :=
  (ld_scale (arg14.view.read (Elt Ideal) X14) 0 _ _ k (k0_off3_eq k) r l).trans (hS 0 _ l)
theorem v100_apply (r : Fin 32) (l : Fin 128) : trip_k0_t1.sl.v100 (F := Ideal) arg14 X14 k (ix2 r l) = sc 1 (trow k r) :=
  (ld_scale (arg14.view.read (Elt Ideal) X14) 1 _ _ k (k0_off4_eq k) r l).trans (hS 1 _ l)

/-- The residual pieces hold the residual. -/
theorem under9 : Under (e := .bf16) (fun y => RES arg4 arg7 arg8 X4 X7 X8 sc (y 1) (y 2)) (trip_k0_t1.sl.HW_arg9_40 (F := Ideal) arg4 arg7 arg8 arg14 X4 X7 X8 X14 k) := by
  unfold trip_k0_t1.sl.HW_arg9_40
  have c := fun {o5 o6 o7 ob h5 h6 h7 hb} [ClosedOff o5] [ClosedOff o6] [ClosedOff o7] =>
    res_chunk (arg4 := arg4) (arg7 := arg7) (arg8 := arg8) (X4 := X4) (X7 := X7) (X8 := X8) (o5 := o5) (o6 := o6) (o7 := o7) (ob := ob) (h5 := h5) (h6 := h6) (h7 := h7) (hb := hb)
      (v97_apply k hS) (v100_apply k hS)
  iterate 40 refine under_cons _ (by decide) (c _ (by decide) rfl rfl rfl rfl) rfl rfl ?_
  exact List.forall_mem_nil _

omit hS in
/-- There is a residual piece for every chunk. -/
theorem chunk9 (j : Fin 40) : ∃ p ∈ trip_k0_t1.sl.HW_arg9_40 (F := Ideal) arg4 arg7 arg8 arg14 X4 X7 X8 X14 k, IsChunk (e := .bf16) k j.val p := by
  unfold trip_k0_t1.sl.HW_arg9_40
  refine ⟨_, List.getElem_mem (n := 39 - j.val) (by show _ < 40; omega), ?_⟩
  fin_cases j <;> exact isChunk _ rfl

/-- The row factor: the reciprocal root of the row's mean square. -/
theorem r3_apply (r : Fin 32) (l : Fin 128) :
    trip_k0_t1.sl.r_3 (F := Ideal) arg4 arg7 arg8 arg14 X4 X7 X8 X14 k (ix2 r l) = rs (RES arg4 arg7 arg8 X4 X7 X8 sc (trow k r)) := by
  have c := fun {o5 o6 o7 ob h5 h6 h7 hb} [ClosedOff o5] [ClosedOff o6] [ClosedOff o7] =>
    res_chunk (arg4 := arg4) (arg7 := arg7) (arg8 := arg8) (X4 := X4) (X7 := X7) (X8 := X8) (o5 := o5) (o6 := o6) (o7 := o7) (ob := ob) (h5 := h5) (h6 := h6) (h7 := h7) (hb := hb)
      (v97_apply k hS) (v100_apply k hS)
  refine squares_all (G := RES arg4 arg7 arg8 X4 X7 X8 sc) (k := k) ?_ r l
  iterate 40 refine squares_step ?_ (by decide) (by decide) (c _ (by decide) rfl rfl rfl rfl)
  exact squares_zero

end

section
variable (𝒱 : Variants) (c : Dev nD) (bd : Option 𝒱.V) (i : grid0.Coords) (arg2 : Memref sig .tc .smem S16 .f32) (harg2 : arg2.IsWhole) (arg3 : Memref sig .tc .vmem S2x16x640 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x16 .f32) (harg6 : arg6.IsWhole) (arg7 : Memref sig .tc .vmem S2x1x128x5120 .fp8e4m3) (harg7 : arg7.IsWhole) (arg8 : Memref sig .tc .vmem S1x128x5120 .bf16) (harg8 : arg8.IsWhole) (arg9 : Memref sig .tc .vmem S1x128x5120 .bf16) (harg9 : arg9.IsWhole) (arg10 : Memref sig .tc .smem S1 .f32) (harg10 : arg10.IsWhole) (arg11 : Memref sig .tc .smem S16 .f32) (harg11 : arg11.IsWhole) (arg12 : Memref sig .tc .vmem S1x128x5120 .fp8e4m3) (harg12 : arg12.IsWhole) (arg13 : Memref sig .tc .smem S1 .f32) (harg13 : arg13.IsWhole) (arg14 : Memref sig .tc .vmem S2x128x128 .f32) (harg14 : arg14.IsWhole) (arg15 : Memref sig .tc .vmem S32x128 .f32) (harg15 : arg15.IsWhole) (v45 : FVec Ideal S32x128 .f32) (X4 : BufTy.Contents (Elt Ideal) arg4.view.ty) (X5 : BufTy.Contents (Elt Ideal) arg5.view.ty) (X7 : BufTy.Contents (Elt Ideal) arg7.view.ty) (X8 : BufTy.Contents (Elt Ideal) arg8.view.ty) (X14 : BufTy.Contents (Elt Ideal) arg14.view.ty) (k : Fin k0_t1_loop.trips)
  (acc : Vec Ideal S32x128 .f32) (f9 : BufTy.Contents (Elt Ideal) arg9.view.ty) (f12 : BufTy.Contents (Elt Ideal) arg12.view.ty)
  {sc : Fin 2 → Fin 128 → EReal} {inv : EReal} (hS : Scaled arg14 X14 sc) (hv : ∀ i, v45 i = inv)

/-- The normalised rows of the block the memrefs hold. -/
abbrev NRM (sc : Fin 2 → Fin 128 → EReal) (r : Fin 128) : Fin 5120 → EReal := nrm (RES arg4 arg7 arg8 X4 X7 X8 sc r) (arg5.view.read (Elt Ideal) X5)

include hS in
theorem trip_under9 : Under (e := .bf16) (fun y => RES arg4 arg7 arg8 X4 X7 X8 sc (y 1) (y 2)) ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 k).2.1 acc f9 f12) := by
  unfold trip_k0_t1
  exact under9 arg4 arg7 arg8 X4 X7 X8 k hS

theorem trip_chunk9 (j : Fin 40) : ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 k).2.1 acc f9 f12, IsChunk (e := .bf16) k j.val p := by
  unfold trip_k0_t1
  exact chunk9 arg4 arg7 arg8 X4 X7 X8 k j

theorem trip_chunk12 (j : Fin 40) : ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 k).2.2.1 acc f9 f12, IsChunk (e := .fp8e4m3) k j.val p := by
  unfold trip_k0_t1
  dsimp only
  refine ⟨_, List.getElem_mem (n := 39 - j.val) (by show _ < 40; omega), ?_⟩
  fin_cases j <;> exact isChunk _ rfl

include hS hv in
theorem trip_under12 : Under (e := .fp8e4m3) (fun y => code inv (NRM arg4 arg5 arg7 arg8 X4 X5 X7 X8 sc (y 1) (y 2))) ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 k).2.2.1 acc f9 f12) := by
  unfold trip_k0_t1
  dsimp only
  have c := fun {o og h hg} [ClosedOff o] =>
    nrm_chunk (arg5 := arg5) (X5 := X5) (arg9 := arg9) (o := o) (og := og) (h := h) (hg := hg)
      (r3_apply arg4 arg7 arg8 X4 X7 X8 k hS) (under9 arg4 arg7 arg8 X4 X7 X8 k hS) (chunk9 arg4 arg7 arg8 X4 X7 X8 k)
  iterate 40 refine under_cons_code hv _ (by decide) (c _ (by decide) rfl rfl) rfl rfl ?_
  exact List.forall_mem_nil _

include hS in
theorem trip_max : Maxima (NRM arg4 arg5 arg7 arg8 X4 X5 X7 X8 sc) k acc 40 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 k).1 acc f9 f12) := by
  unfold trip_k0_t1
  dsimp only
  have c := fun {o og h hg} [ClosedOff o] =>
    nrm_chunk (arg5 := arg5) (X5 := X5) (arg9 := arg9) (o := o) (og := og) (h := h) (hg := hg)
      (r3_apply arg4 arg7 arg8 X4 X7 X8 k hS) (under9 arg4 arg7 arg8 X4 X7 X8 k hS) (chunk9 arg4 arg7 arg8 X4 X7 X8 k)
  iterate 40 refine maxima_step ?_ (by decide) (by decide) (c _ (by decide) rfl rfl)
  exact maxima_zero

end
end Cert.KernelIdeal.Tile
-- ==== Proof.KI.State.lean ====
/- The state of the kernel's loop after its trips, over the extended reals: the pieces cover the
   block and hold the residual and the codes, and the carried maximum is over all rows and columns. -/
module

public import proofs.«01_k».proof.Proof.KI.Trip

@[expose] public section
set_option maxRecDepth 16384
noncomputable section
namespace Cert.KernelIdeal.Tile
open Cert.KernelIdeal Cert.KernelIdeal.Gen Idealize.ShloMosaic Idealize.ShloMosaic.TcCoe

/-- The absolute value. -/
abbrev mag (y : EReal) : EReal := max y (-y)

/-- The maximum carried out of the loop, from the one carried in. -/
def accOut (Y : Fin 128 → Fin 5120 → EReal) (a : FVec Ideal S32x128 .f32) : FVec Ideal S32x128 .f32 := fun y =>
  max (a y : EReal) (Finset.univ.sup fun p : Fin k0_t1_loop.trips × Fin 40 => mag (Y (trow p.1 (y 0)) (col p.2 (y 1))))

theorem maxima_le {Y : Fin 128 → Fin 5120 → EReal} {k : Fin k0_t1_loop.trips} {acc a : FVec Ideal S32x128 .f32} (h : Maxima Y k acc 40 a)
    (r : Fin 32) (l : Fin 128) (u : EReal) :
    (a (ix2 r l) : EReal) ≤ u ↔ (acc (ix2 r l) : EReal) ≤ u ∧ ∀ j : Fin 40, mag (Y (trow k r) (col j l)) ≤ u := by
  rw [h r l, max_le_iff, Finset.sup_le_iff]
  refine and_congr_right fun _ => ⟨fun H j => ?_, fun H j hj => ?_⟩
  · have := H j.val (Finset.mem_range.2 j.isLt)
    rw [at5120, dif_pos (by omega)] at this
    exact this
  · have hj' := Finset.mem_range.1 hj
    rw [at5120, dif_pos (by omega)]
    exact H ⟨j, hj'⟩

/-- What holds before trip `n`. -/
structure State (W9 W12 : S1x128x5120.Idx → EReal) (Y : Fin 128 → Fin 5120 → EReal) (init : FVec Ideal S32x128 .f32) (n : ℕ)
    (st : Vec Ideal S32x128 .f32 × List (View.Piece (Elt Ideal) S1x128x5120 .bf16) × List (View.Piece (Elt Ideal) S1x128x5120 .fp8e4m3)) : Prop where
  under9 : Under (e := .bf16) W9 st.2.1
  under12 : Under (e := .fp8e4m3) W12 st.2.2
  chunk9 : ∀ k : Fin k0_t1_loop.trips, k.val < n → ∀ j : Fin 40, ∃ p ∈ st.2.1, IsChunk k j.val p
  chunk12 : ∀ k : Fin k0_t1_loop.trips, k.val < n → ∀ j : Fin 40, ∃ p ∈ st.2.2, IsChunk k j.val p
  le : ∀ r l (u : EReal), (st.1 (ix2 r l) : EReal) ≤ u ↔ (init (ix2 r l) : EReal) ≤ u ∧
    ∀ k : Fin k0_t1_loop.trips, k.val < n → ∀ j : Fin 40, mag (Y (trow k r) (col j l)) ≤ u

theorem under_append {e : EltTy} {W : S1x128x5120.Idx → Elt Ideal e} {L M : List (View.Piece (Elt Ideal) S1x128x5120 e)}
    (hL : Under W L) (hM : Under W M) : Under W (L ++ M) := fun p hp => (List.mem_append.1 hp).elim (hL p) (hM p)

section
variable (𝒱 : Variants) (c : Dev nD) (bd : Option 𝒱.V) (i : grid0.Coords) (arg2 : Memref sig .tc .smem S16 .f32) (harg2 : arg2.IsWhole) (arg3 : Memref sig .tc .vmem S2x16x640 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x16 .f32) (harg6 : arg6.IsWhole) (arg7 : Memref sig .tc .vmem S2x1x128x5120 .fp8e4m3) (harg7 : arg7.IsWhole) (arg8 : Memref sig .tc .vmem S1x128x5120 .bf16) (harg8 : arg8.IsWhole) (arg9 : Memref sig .tc .vmem S1x128x5120 .bf16) (harg9 : arg9.IsWhole) (arg10 : Memref sig .tc .smem S1 .f32) (harg10 : arg10.IsWhole) (arg11 : Memref sig .tc .smem S16 .f32) (harg11 : arg11.IsWhole) (arg12 : Memref sig .tc .vmem S1x128x5120 .fp8e4m3) (harg12 : arg12.IsWhole) (arg13 : Memref sig .tc .smem S1 .f32) (harg13 : arg13.IsWhole) (arg14 : Memref sig .tc .vmem S2x128x128 .f32) (harg14 : arg14.IsWhole) (arg15 : Memref sig .tc .vmem S32x128 .f32) (harg15 : arg15.IsWhole) (v45 : FVec Ideal S32x128 .f32) (X4 : BufTy.Contents (Elt Ideal) arg4.view.ty) (X5 : BufTy.Contents (Elt Ideal) arg5.view.ty) (X7 : BufTy.Contents (Elt Ideal) arg7.view.ty) (X8 : BufTy.Contents (Elt Ideal) arg8.view.ty) (X14 : BufTy.Contents (Elt Ideal) arg14.view.ty)
  (G9 : BufTy.Contents (Elt Ideal) arg9.view.ty) (G12 : BufTy.Contents (Elt Ideal) arg12.view.ty) (init : Vec Ideal S32x128 .f32)
  {sc : Fin 2 → Fin 128 → EReal} {inv : EReal} (hS : Scaled arg14 X14 sc) (hv : ∀ i, v45 i = inv)

include hS hv in
theorem state_step (n : ℕ) (hn : n < k0_t1_loop.trips) (f9 : BufTy.Contents (Elt Ideal) arg9.view.ty) (f12 : BufTy.Contents (Elt Ideal) arg12.view.ty)
    {s : Vec Ideal S32x128 .f32 × List (View.Piece (Elt Ideal) S1x128x5120 .bf16) × List (View.Piece (Elt Ideal) S1x128x5120 .fp8e4m3)}
    (ih : State (fun y => RES arg4 arg7 arg8 X4 X7 X8 sc (y 1) (y 2)) (fun y => code inv (NRM arg4 arg5 arg7 arg8 X4 X5 X7 X8 sc (y 1) (y 2)))
      (NRM arg4 arg5 arg7 arg8 X4 X5 X7 X8 sc) init n s) :
    State (fun y => RES arg4 arg7 arg8 X4 X7 X8 sc (y 1) (y 2)) (fun y => code inv (NRM arg4 arg5 arg7 arg8 X4 X5 X7 X8 sc (y 1) (y 2)))
      (NRM arg4 arg5 arg7 arg8 X4 X5 X7 X8 sc) init (n + 1)
      ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 ⟨n, hn⟩).1 s.1 f9 f12, (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 ⟨n, hn⟩).2.1 s.1 f9 f12 ++ s.2.1, (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 ⟨n, hn⟩).2.2.1 s.1 f9 f12 ++ s.2.2) := by
  have split : ∀ {P : Fin k0_t1_loop.trips → Prop}, P ⟨n, hn⟩ → (∀ k, k.val < n → P k) → ∀ k : Fin k0_t1_loop.trips, k.val < n + 1 → P k := by
    intro P h0 h1 k hk
    by_cases e : k.val < n
    · exact h1 k e
    · obtain rfl : k = ⟨n, hn⟩ := Fin.ext (by show k.val = n; omega)
      exact h0
  refine ⟨under_append (trip_under9 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 ⟨n, hn⟩ s.1 f9 f12 hS) ih.under9,
    under_append (trip_under12 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 ⟨n, hn⟩ s.1 f9 f12 hS hv) ih.under12,
    split (fun j => ?_) fun k hk j => ?_, split (fun j => ?_) fun k hk j => ?_, fun r l u => ?_⟩
  · obtain ⟨p, hp, h⟩ := trip_chunk9 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 ⟨n, hn⟩ s.1 f9 f12 j
    exact ⟨p, List.mem_append_left _ hp, h⟩
  · obtain ⟨p, hp, h⟩ := ih.chunk9 k hk j
    exact ⟨p, List.mem_append_right _ hp, h⟩
  · obtain ⟨p, hp, h⟩ := trip_chunk12 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 ⟨n, hn⟩ s.1 f9 f12 j
    exact ⟨p, List.mem_append_left _ hp, h⟩
  · obtain ⟨p, hp, h⟩ := ih.chunk12 k hk j
    exact ⟨p, List.mem_append_right _ hp, h⟩
  · refine (maxima_le (trip_max 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 ⟨n, hn⟩ s.1 f9 f12 hS) r l u).trans ?_
    rw [ih.le r l u, and_assoc]
    exact and_congr_right fun _ => ⟨fun h => split h.2 h.1, fun h => ⟨fun k hk => h k (by omega), h ⟨n, hn⟩ (Nat.lt_succ_self n)⟩⟩

include hS hv in
theorem state (n : ℕ) (hn : n ≤ k0_t1_loop.trips) :
    State (fun y => RES arg4 arg7 arg8 X4 X7 X8 sc (y 1) (y 2)) (fun y => code inv (NRM arg4 arg5 arg7 arg8 X4 X5 X7 X8 sc (y 1) (y 2)))
      (NRM arg4 arg5 arg7 arg8 X4 X5 X7 X8 sc) init n (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 G9 G12 init n) := by
  induction n with
  | zero =>
    exact ⟨List.forall_mem_nil _, List.forall_mem_nil _, fun _ h => absurd h (Nat.not_lt_zero _), fun _ h => absurd h (Nat.not_lt_zero _),
      fun r l u => ⟨fun h => ⟨h, fun _ h => absurd h (Nat.not_lt_zero _)⟩, fun h => h.1⟩⟩
  | succ n ih =>
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 G9 G12 init ⟨n, hn⟩
    exact hs.symm ▸ state_step 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 init hS hv n hn _ _ (ih (by omega))

end
end Cert.KernelIdeal.Tile
-- ==== Proof.KI.Vals.lean ====
/- The values around the kernel's loop, over the extended reals: the row scales in their scratch, the
   inverse scale on every lane, the cleared maximum, and what the loop leaves in its two blocks. -/
module

public import proofs.«01_k».proof.Proof.KI.State

@[expose] public section
set_option maxRecDepth 16384
noncomputable section
namespace Cert.KernelIdeal.Tile
open Cert.KernelIdeal Cert.KernelIdeal.Gen Idealize.ShloMosaic Idealize.ShloMosaic.TcCoe

/-- The batch of a grid point. -/
abbrev bat (i : grid0.Coords) : Fin 16 := i 0
/-- Row `r` of a grid point's 128 rows of the 640. -/
abbrev seqr (i : grid0.Coords) (r : Fin 128) : Fin 640 := ⟨128 * (i 1).val + r.val, by have : (i 1).val < 5 := (i 1).isLt; omega⟩

/-- The row scales a grid point uses. -/
def scaleOf (i : grid0.Coords) (x1 : Vec Ideal S2x16x640 .f32) (s : Fin 2) (r : Fin 128) : EReal := x1 (ix3 s (bat i) (seqr i r))

/-- The sum over the batches of the values kept where the batch is `b` is the value at `b`. -/
theorem pick_sum (v : Fin 16 → EReal) (b : Fin 16) :
    (∑ a : Fin 16, if BitVec.ofNat 32 a.val = BitVec.ofNat 32 b.val then v a else 0) = v b := by
  have e : ∀ a : Fin 16, (BitVec.ofNat 32 a.val = BitVec.ofNat 32 b.val) ↔ a = b := by
    intro a
    refine ⟨fun h => Fin.ext ?_, fun h => h ▸ rfl⟩
    have := congrArg BitVec.toNat h
    simp only [BitVec.toNat_ofNat] at this
    omega
  simp [e]

theorem scale_tile (b : Fin 16) (v : Vec Ideal S1x16x128 .f32) (z : Fin 1) (r l : Fin 128) :
    k0_pay284 (F := Ideal) (BitVec.ofNat 32 b.val) v (ix3 z r l) = v (ix3 0 b r) := by
  refine Eq.trans ?_ (pick_sum (fun a => v (ix3 0 a r)) b)
  pointwise [k0_pay284]
  refine Finset.sum_congr rfl fun a _ => ?_
  by_cases h : BitVec.ofNat 32 a.val = BitVec.ofNat 32 b.val
  · simp [Scalar.select, IntOp.cmpi, h]
  · have : (BitVec.ofNat 32 a.val == BitVec.ofNat 32 b.val) = false := beq_eq_false_iff_ne.2 h
    simp [Scalar.select, IntOp.cmpi, h, this]

theorem scale_tile' (b : Fin 16) (v : Vec Ideal S1x16x128 .f32) (z : Fin 1) (r l : Fin 128) :
    k0_pay1 (F := Ideal) (k0_pay285 (F := Ideal) (BitVec.ofNat 32 b.val) v) (ix3 z r l) = v (ix3 0 b r) :=
  scale_tile b v z r l

theorem ld_tile (X : Vec Ideal S2x16x640 .f32) (i : grid0.Coords) (s : Fin 2) {o : Fin 3 → ℕ} {h} (ho : o = ![s.val, 0, 128 * (i 1).val])
    (b : Fin 16) (r : Fin 128) :
    View.ld X (Rect.unit (s := S2x16x640) o S1x16x128.size h) (ix3 0 b r) = X (ix3 s b (seqr i r)) := by
  subst ho
  refine congrArg X (funext fun a => Fin.ext ?_)
  fin_cases a <;> simp

theorem idx_scratch (s : Fin 2) {h} (z : Fin 1) (r l : Fin 128) :
    (Rect.unit (s := S2x128x128) ![s.val, 0, 0] S1x128x128.size h).idx (ix3 z r l) = ix3 s r l := by
  refine funext fun a => Fin.ext ?_
  fin_cases a <;> simp

/-- After its two stores the scratch holds the row scales of the grid point. -/
theorem scaled_scratch (arg3 : Memref sig .tc .vmem S2x16x640 .f32) (arg14 : Memref sig .tc .vmem S2x128x128 .f32) (i : grid0.Coords)
    (X3 : BufTy.Contents (Elt Ideal) arg3.view.ty) (f : BufTy.Contents (Elt Ideal) arg14.view.ty) {h1 h2 h3 h4} :
    Scaled arg14 (arg14.view.writes (Elt Ideal) f
      [⟨Rect.unit (s := S2x128x128) ![1, 0, 0] S1x128x128.size h1, k0_pay1 (F := Ideal) (k0_pay285 (F := Ideal) (BitVec.ofNat 32 (i 0).val)
          (View.readAt (Elt Ideal) arg3.view (Rect.unit (s := S2x16x640) (k0_off2 i) S1x16x128.size h2).toLoadRect X3))⟩,
       ⟨Rect.unit (s := S2x128x128) ![0, 0, 0] S1x128x128.size h3, k0_pay284 (F := Ideal) (BitVec.ofNat 32 (i 0).val)
          (View.readAt (Elt Ideal) arg3.view (Rect.unit (s := S2x16x640) (k0_off1 i) S1x16x128.size h4).toLoadRect X3)⟩])
      (scaleOf i (arg3.view.read (Elt Ideal) X3)) := by
  intro s r l
  have e0 := fun z r l => (scale_tile (bat i) (View.readAt (Elt Ideal) arg3.view (Rect.unit (s := S2x16x640) (k0_off1 i) S1x16x128.size h4).toLoadRect X3) z r l).trans
    ((congrFun (View.readAt_eq_ld _ _ _) _).trans (ld_tile (arg3.view.read (Elt Ideal) X3) i 0 (h := h4) (k0_off1_eq i) (bat i) r))
  have e1 := fun z r l => (scale_tile' (bat i) (View.readAt (Elt Ideal) arg3.view (Rect.unit (s := S2x16x640) (k0_off2 i) S1x16x128.size h2).toLoadRect X3) z r l).trans
    ((congrFun (View.readAt_eq_ld _ _ _) _).trans (ld_tile (arg3.view.read (Elt Ideal) X3) i 1 (h := h2) (k0_off2_eq i) (bat i) r))
  have hc : ∀ (e : (∀ a, (![s.val, 0, 0] : Fin 3 → ℕ) a + S1x128x128.size a ≤ S2x128x128.size a)),
      (ix3 s r l : S2x128x128.Idx) ∈ (Rect.unit (s := S2x128x128) ![s.val, 0, 0] S1x128x128.size e).set := by
    intro e
    exact idx_scratch s (h := e) 0 r l ▸ LoadRect.idx_mem _ _
  rw [View.read_writes_apply_eq_canon]
  · refine (View.canon_apply_of_pieces (S := S2x128x128) (Val := Elt Ideal) (e := .f32) (fun y => scaleOf i (arg3.view.read (Elt Ideal) X3) (y 0) (y 1)) _ ?_ _ ?_)
    · intro p hp x
      rcases List.mem_pair.1 hp with rfl | rfl
      · obtain ⟨z, r', l', rfl⟩ : ∃ z r' l', x = (ix3 z r' l' : S1x128x128.Idx) := ⟨x 0, x 1, x 2, eq_ix3 x⟩
        have := idx_scratch 1 (h := h1) z r' l'
        exact (e1 z r' l').trans (congrArg (fun y : S2x128x128.Idx => scaleOf i (arg3.view.read (Elt Ideal) X3) (y 0) (y 1)) this.symm)
      · obtain ⟨z, r', l', rfl⟩ : ∃ z r' l', x = (ix3 z r' l' : S1x128x128.Idx) := ⟨x 0, x 1, x 2, eq_ix3 x⟩
        have := idx_scratch 0 (h := h3) z r' l'
        exact (e0 z r' l').trans (congrArg (fun y : S2x128x128.Idx => scaleOf i (arg3.view.read (Elt Ideal) X3) (y 0) (y 1)) this.symm)
    · fin_cases s
      · exact ⟨_, List.mem_cons_of_mem _ (List.mem_singleton.2 rfl), hc h3⟩
      · exact ⟨_, List.mem_cons_self, hc h1⟩
  · fin_cases s
    · exact ⟨_, List.mem_cons_of_mem _ (List.mem_singleton.2 rfl), hc h3⟩
    · exact ⟨_, List.mem_cons_self, hc h1⟩

theorem zero_apply (y : S32x128.Idx) : k0_pay279 (F := Ideal) y = 0 := by
  obtain ⟨r, l, rfl⟩ : ∃ r l, y = ix2 r l := ⟨y 0, y 1, eq_ix2 y⟩
  pointwise [k0_pay279]

theorem inv_apply (v : IVec S1x1 32) (y : S32x128.Idx) : k0_pay283 (F := Ideal) v 255#32 k0_pay282 y = bitcastToFloat (F := Ideal) .f32 (shli (minsi (broadcast S1x1 255#32) (maxsi k0_pay282 v)) (broadcast S1x1 23#32)) (ix2 0 0) := by
  obtain ⟨r, l, rfl⟩ : ∃ r l, y = ix2 r l := ⟨y 0, y 1, eq_ix2 y⟩
  pointwise [k0_pay283]

/-- Pieces of all chunks of all trips, each holding its part of one block, leave that block. -/
theorem read_block {e : EltTy} {L : List (View.Piece (Elt Ideal) S1x128x5120 e)} {W : S1x128x5120.Idx → Elt Ideal e} (hU : Under W L)
    (hC : ∀ k : Fin k0_t1_loop.trips, k.val < k0_t1_loop.trips → ∀ j : Fin 40, ∃ p ∈ L, IsChunk k j.val p) (v : Memref sig .tc .vmem S1x128x5120 e)
    (f : BufTy.Contents (Elt Ideal) v.view.ty) : v.view.read (Elt Ideal) (v.view.writes (Elt Ideal) f L) = W := by
  funext y
  have hy : ∃ p ∈ L, y ∈ p.1.set := by
    obtain ⟨z, r, d, rfl⟩ : ∃ z r d, y = (ix3 z r d : S1x128x5120.Idx) := ⟨y 0, y 1, y 2, eq_ix3 y⟩
    have ht : r.val / 32 < k0_t1_loop.trips := by
      have : k0_t1_loop.trips = 4 := by decide
      omega
    have := covered (hC ⟨r.val / 32, ht⟩ ht) ⟨r.val % 32, Nat.mod_lt _ (by decide)⟩ d z
    have er : trow ⟨r.val / 32, ht⟩ ⟨r.val % 32, Nat.mod_lt _ (by decide)⟩ = r := Fin.ext (by show 32 * (r.val / 32) + r.val % 32 = r.val; omega)
    rwa [er] at this
  exact (View.read_writes_apply_eq_canon v.view f y L hy).trans (View.canon_apply_of_pieces (S := S1x128x5120) (Val := Elt Ideal) (e := e) W L hU y hy)

/-- The maximum the loop hands on. -/
theorem acc_eq {W9 W12 : S1x128x5120.Idx → EReal} {Y : Fin 128 → Fin 5120 → EReal} {init : FVec Ideal S32x128 .f32} {st}
    (h : State W9 W12 Y init k0_t1_loop.trips st) : st.1 = accOut Y init := by
  funext y
  obtain ⟨r, l, rfl⟩ : ∃ r l, y = (ix2 r l : S32x128.Idx) := ⟨y 0, y 1, eq_ix2 y⟩
  refine eq_of_forall_ge_iff (α := EReal) fun u => (h.le r l u).trans ?_
  show _ ↔ max (init (ix2 r l) : EReal) (Finset.univ.sup fun p : Fin k0_t1_loop.trips × Fin 40 => mag (Y (trow p.1 r) (col p.2 l))) ≤ u
  rw [max_le_iff, Finset.sup_le_iff]
  exact and_congr_right fun _ => ⟨fun H p _ => H p.1 p.1.isLt p.2, fun H k _ j => H (k, j) (Finset.mem_univ _)⟩

/-- The history moved on by one: every entry one place down, the newest at the end. -/
def shifted (x0 : Vec Ideal S16 .f32) (a : EReal) : Vec Ideal S16 .f32 := fun y =>
  if h : (y 0).val < 15 then x0 (ix1 ⟨(y 0).val + 1, by omega⟩) else a

/-- The grid's first point, as the kernel tests it. -/
abbrev firstPoint (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The grid's last point, as the kernel tests it. -/
abbrev lastPoint (i : grid0.Coords) : Prop := k0_cond2 i = 1#1

section
variable (i : grid0.Coords) (x0 : Vec Ideal S16 .f32) (x1 : Vec Ideal S2x16x640 .f32) (x2 : Vec Ideal S1x5120 .f32) (x3 : Vec Ideal S1x5120 .f32) (x4 : Vec Ideal S1x16 .f32)
  (x5 : Vec Ideal S2x1x128x5120 .fp8e4m3) (x6 : Vec Ideal S1x128x5120 .bf16) (xs : Vec Ideal S32x128 .f32)

/-- The residual of a grid point's blocks. -/
abbrev resOf : Fin 128 → Fin 5120 → EReal := res (scaleOf i x1) x2 x5 x6
/-- The normalised rows of a grid point's blocks. -/
abbrev nrmOf (r : Fin 128) : Fin 5120 → EReal := nrm (resOf i x1 x2 x5 x6 r) x3
/-- The inverse scale, from the history. -/
def invOf : EReal := bitcastToFloat (F := Ideal) .f32 (shli (minsi (broadcast S1x1 255#32) (maxsi k0_pay282 (k0_pay281 (F := Ideal) x4))) (broadcast S1x1 23#32)) (ix2 0 0)
/-- The residual block a grid point leaves, -/
def out9 : Vec Ideal S1x128x5120 .bf16 := fun y => resOf i x1 x2 x5 x6 (y 1) (y 2)
/-- its codes, -/
def out12 : Vec Ideal S1x128x5120 .fp8e4m3 := fun y => code (invOf x4) (nrmOf i x1 x2 x3 x5 x6 (y 1) (y 2))
/-- and its running maximum, from the one before it (cleared at the first point). -/
def out15 : Vec Ideal S32x128 .f32 := accOut (nrmOf i x1 x2 x3 x5 x6) (if firstPoint i then k0_pay279 (F := Ideal) else xs)

end

/-- One store through the whole block leaves what it stores. -/
theorem read_one {S : Shape} {κ : Kind} {sp : Space} {e : EltTy} (v : Memref sig κ sp S e) (f : BufTy.Contents (Elt Ideal) v.view.ty) {off : Fin S.rank → ℕ}
    (z : off = fun _ => 0) (h : ∀ a, off a + S.size a ≤ S.size a) (w : S.Idx → Elt Ideal e) :
    v.view.read (Elt Ideal) (v.view.writes (Elt Ideal) f [⟨Rect.unit off S.size h, w⟩]) = w := by
  funext y
  exact (View.read_writes_apply_eq_canon _ _ y _ ⟨_, List.mem_singleton.2 rfl, View.mem_set_unit_zero z h y⟩).trans
    (congrFun (View.canon_unit_zero z h _) y)

theorem zero2 : (![0, 0] : Fin S32x128.rank → ℕ) = fun _ => 0 := by funext a; fin_cases a <;> rfl
theorem zero1 : (![0] : Fin S1.rank → ℕ) = fun _ => 0 := by funext a; fin_cases a; rfl

/-- The loop's first maximum: what the scratch held, or the cleared one. -/
theorem read_init (i : grid0.Coords) (arg15 : Memref sig .tc .vmem S32x128 .f32) (f : BufTy.Contents (Elt Ideal) arg15.view.ty)
    (hc : Decidable (firstPoint i)) {h h'} :
    View.readAt (Elt Ideal) arg15.view (Rect.unit (s := S32x128) ![0, 0] S32x128.size h).toLoadRect
      (@dite _ (firstPoint i) hc (fun _ => arg15.view.writes (Elt Ideal) f [⟨Rect.unit (s := S32x128) ![0, 0] S32x128.size h', k0_pay279 (F := Ideal)⟩]) fun _ => f)
      = if firstPoint i then k0_pay279 (F := Ideal) else arg15.view.read (Elt Ideal) f := by
  rw [View.readAt_eq_ld]
  refine (View.ld_unit_zero (S := S32x128) zero2 h _).trans ?_
  by_cases e : firstPoint i
  · rw [dif_pos e, if_pos e]
    exact read_one arg15 f zero2 h' _
  · rw [dif_neg e, if_neg e]

theorem relay_id (v : Vec Ideal S32x128 .f32) : k0_pay6 (F := Ideal) v = v := by
  funext y
  obtain ⟨r, l, rfl⟩ : ∃ r l, y = (ix2 r l : S32x128.Idx) := ⟨y 0, y 1, eq_ix2 y⟩
  pointwise [k0_pay6]

/-- One store of the whole scratch leaves what it stores. -/
theorem read_whole (arg15 : Memref sig .tc .vmem S32x128 .f32) (f : BufTy.Contents (Elt Ideal) arg15.view.ty) (w : Vec Ideal S32x128 .f32) {h} :
    arg15.view.read (Elt Ideal) (arg15.view.writes (Elt Ideal) f [⟨Rect.unit (s := S32x128) ![0, 0] S32x128.size h, k0_pay6 (F := Ideal) w⟩]) = w := by
  exact (read_one arg15 f zero2 h _).trans (relay_id w)

/-- A store of a word's whole one-word block leaves that word. -/
theorem read_word (v : Memref sig .tc .smem S1 .f32) (f : BufTy.Contents (Elt Ideal) v.view.ty) (w : EReal) {h} :
    v.view.read (Elt Ideal) (v.view.writes (Elt Ideal) f [⟨Rect.unit (s := S1) ![0] S1.size h, fun _ => w⟩]) = fun _ => w := by
  exact read_one v f zero1 h _

/-! ### The history's sixteen stores -/

/-- A load of one word of the history. -/
theorem hist_load (arg2 : Memref sig .tc .smem S16 .f32) (X : BufTy.Contents (Elt Ideal) arg2.view.ty) (n : Fin 16)
    {h : ∀ a, (![n.val] : Fin S16.rank → ℕ) a + S1.size a ≤ S16.size a} (j : S1.Idx) :
    View.readAt (Elt Ideal) arg2.view (Rect.unit (s := S16) ![n.val] S1.size h).toLoadRect X j = arg2.view.read (Elt Ideal) X (ix1 n) := by
  rw [View.readAt_eq_ld]
  refine congrArg (arg2.view.read (Elt Ideal) X) (funext fun a => Fin.ext ?_)
  have : (j 0).val < 1 := (j 0).isLt
  fin_cases a
  show n.val + 1 * (j 0).val = n.val
  omega

/-- Pieces of the history each holding the value of `W` at its place. -/
def Words (W : Vec Ideal S16 .f32) (L : List (View.Piece (Elt Ideal) S16 .f32)) : Prop :=
  ∀ p ∈ L, ∀ x : p.1.shape.Idx, p.2 x = W (p.1.emb x)

theorem words_cons {W : Vec Ideal S16 .f32} {L : List (View.Piece (Elt Ideal) S16 .f32)} (n : Fin 16)
    {h : ∀ a, (![n.val] : Fin S16.rank → ℕ) a + S1.size a ≤ S16.size a} {w : EReal} (hw : w = W (ix1 n)) (hL : Words W L) :
    Words W (⟨Rect.unit (s := S16) ![n.val] S1.size h, fun _ => w⟩ :: L) := by
  intro p hp
  rcases List.mem_cons.1 hp with rfl | hp
  · intro x
    refine hw.trans (congrArg W (funext fun a => Fin.ext ?_))
    have : ((x : S1.Idx) 0).val < 1 := ((x : S1.Idx) 0).isLt
    fin_cases a
    show n.val = n.val + 1 * ((x : S1.Idx) 0).val
    omega
  · exact hL p hp

theorem mem_word (n : Fin 16) {h : ∀ a, (![n.val] : Fin S16.rank → ℕ) a + S1.size a ≤ S16.size a} (y : S16.Idx) (hy : (y 0).val = n.val) :
    y ∈ (Rect.unit (s := S16) ![n.val] S1.size h).set := by
  rw [Rect.mem_set_unit]
  intro a
  fin_cases a
  show n.val ≤ (y 0).val ∧ (y 0).val < n.val + 1
  omega

/-- A word the history's move loads is the moved history's word. -/
theorem shift_word {arg2 : Memref sig .tc .smem S16 .f32} (harg2 : arg2.IsWhole) (x0 : Vec Ideal S16 .f32) (a : EReal) (n : Fin 15)
    {h : ∀ a, (![n.succ.val] : Fin S16.rank → ℕ) a + S1.size a ≤ S16.size a} (j : S1.Idx) :
    View.readAt (Elt Ideal) arg2.view (Rect.unit (s := S16) ![n.succ.val] S1.size h).toLoadRect (harg2.unread x0) j = shifted x0 a (ix1 n.castSucc) := by
  rw [hist_load arg2 _ n.succ j, harg2.read_unread]
  unfold shifted
  rw [dif_pos (show (ix1 n.castSucc 0).val < 15 from n.isLt)]
  rfl

/-- Pieces for all sixteen words leave the whole history. -/
theorem read_words {W : Vec Ideal S16 .f32} {L : List (View.Piece (Elt Ideal) S16 .f32)} (hL : Words W L)
    (hC : ∀ n : Fin 16, ∃ p ∈ L, ∃ h : (∀ a, (![n.val] : Fin S16.rank → ℕ) a + S1.size a ≤ S16.size a), p.1 = Rect.unit (s := S16) ![n.val] S1.size h)
    (v : Memref sig .tc .smem S16 .f32) (f : BufTy.Contents (Elt Ideal) v.view.ty) : v.view.read (Elt Ideal) (v.view.writes (Elt Ideal) f L) = W := by
  funext y
  have hy : ∃ p ∈ L, y ∈ p.1.set := by
    obtain ⟨p, hp, h, e⟩ := hC (y 0)
    exact ⟨p, hp, e ▸ mem_word (y 0) y rfl⟩
  exact (View.read_writes_apply_eq_canon v.view f y L hy).trans (View.canon_apply_of_pieces (S := S16) (Val := Elt Ideal) (e := .f32) W L hL y hy)

/-- The pieces in hand store the first `k` words of `W`. -/
def Filled (W : Vec Ideal S16 .f32) (k : ℕ) (L : List (View.Piece (Elt Ideal) S16 .f32)) : Prop :=
  Words W L ∧ ∀ n : Fin 16, n.val < k → ∃ p ∈ L, ∃ h : (∀ a, (![n.val] : Fin S16.rank → ℕ) a + S1.size a ≤ S16.size a), p.1 = Rect.unit (s := S16) ![n.val] S1.size h

theorem Filled.cons {W : Vec Ideal S16 .f32} {L : List (View.Piece (Elt Ideal) S16 .f32)} (n : Fin 16)
    {h : ∀ a, (![n.val] : Fin S16.rank → ℕ) a + S1.size a ≤ S16.size a} {w : EReal} (hw : w = W (ix1 n)) (hL : Filled W n.val L) :
    Filled W (n.val + 1) (⟨Rect.unit (s := S16) ![n.val] S1.size h, fun _ => w⟩ :: L) := by
  refine ⟨words_cons n hw hL.1, fun k hk => ?_⟩
  by_cases e : k.val < n.val
  · obtain ⟨p, hp, h'⟩ := hL.2 k e
    exact ⟨p, List.mem_cons_of_mem _ hp, h'⟩
  · obtain rfl : k = n := Fin.ext (by omega)
    exact ⟨_, List.mem_cons_self, h, rfl⟩

/-- Sixteen stores of one word each leave the sixteen words. -/
theorem read_history (v : Memref sig .tc .smem S16 .f32) (f : BufTy.Contents (Elt Ideal) v.view.ty) (W : Vec Ideal S16 .f32) {w0 w1 w2 w3 w4 w5 w6 w7 w8 w9 w10 w11 w12 w13 w14 w15 : EReal}
    {h0} {h1} {h2} {h3} {h4} {h5} {h6} {h7} {h8} {h9} {h10} {h11} {h12} {h13} {h14} {h15}
    (e15 : w15 = W (ix1 15)) (e14 : w14 = W (ix1 14)) (e13 : w13 = W (ix1 13)) (e12 : w12 = W (ix1 12)) (e11 : w11 = W (ix1 11)) (e10 : w10 = W (ix1 10)) (e9 : w9 = W (ix1 9)) (e8 : w8 = W (ix1 8)) (e7 : w7 = W (ix1 7)) (e6 : w6 = W (ix1 6)) (e5 : w5 = W (ix1 5)) (e4 : w4 = W (ix1 4)) (e3 : w3 = W (ix1 3)) (e2 : w2 = W (ix1 2)) (e1 : w1 = W (ix1 1)) (e0 : w0 = W (ix1 0)) :
    v.view.read (Elt Ideal) (v.view.writes (Elt Ideal) f [⟨Rect.unit (s := S16) ![15] S1.size h15, fun _ => w15⟩, ⟨Rect.unit (s := S16) ![14] S1.size h14, fun _ => w14⟩, ⟨Rect.unit (s := S16) ![13] S1.size h13, fun _ => w13⟩, ⟨Rect.unit (s := S16) ![12] S1.size h12, fun _ => w12⟩, ⟨Rect.unit (s := S16) ![11] S1.size h11, fun _ => w11⟩, ⟨Rect.unit (s := S16) ![10] S1.size h10, fun _ => w10⟩, ⟨Rect.unit (s := S16) ![9] S1.size h9, fun _ => w9⟩, ⟨Rect.unit (s := S16) ![8] S1.size h8, fun _ => w8⟩, ⟨Rect.unit (s := S16) ![7] S1.size h7, fun _ => w7⟩, ⟨Rect.unit (s := S16) ![6] S1.size h6, fun _ => w6⟩, ⟨Rect.unit (s := S16) ![5] S1.size h5, fun _ => w5⟩, ⟨Rect.unit (s := S16) ![4] S1.size h4, fun _ => w4⟩, ⟨Rect.unit (s := S16) ![3] S1.size h3, fun _ => w3⟩, ⟨Rect.unit (s := S16) ![2] S1.size h2, fun _ => w2⟩, ⟨Rect.unit (s := S16) ![1] S1.size h1, fun _ => w1⟩, ⟨Rect.unit (s := S16) ![0] S1.size h0, fun _ => w0⟩]) = W := by
  have H : Filled W 16 [⟨Rect.unit (s := S16) ![15] S1.size h15, fun _ => w15⟩, ⟨Rect.unit (s := S16) ![14] S1.size h14, fun _ => w14⟩, ⟨Rect.unit (s := S16) ![13] S1.size h13, fun _ => w13⟩, ⟨Rect.unit (s := S16) ![12] S1.size h12, fun _ => w12⟩, ⟨Rect.unit (s := S16) ![11] S1.size h11, fun _ => w11⟩, ⟨Rect.unit (s := S16) ![10] S1.size h10, fun _ => w10⟩, ⟨Rect.unit (s := S16) ![9] S1.size h9, fun _ => w9⟩, ⟨Rect.unit (s := S16) ![8] S1.size h8, fun _ => w8⟩, ⟨Rect.unit (s := S16) ![7] S1.size h7, fun _ => w7⟩, ⟨Rect.unit (s := S16) ![6] S1.size h6, fun _ => w6⟩, ⟨Rect.unit (s := S16) ![5] S1.size h5, fun _ => w5⟩, ⟨Rect.unit (s := S16) ![4] S1.size h4, fun _ => w4⟩, ⟨Rect.unit (s := S16) ![3] S1.size h3, fun _ => w3⟩, ⟨Rect.unit (s := S16) ![2] S1.size h2, fun _ => w2⟩, ⟨Rect.unit (s := S16) ![1] S1.size h1, fun _ => w1⟩, ⟨Rect.unit (s := S16) ![0] S1.size h0, fun _ => w0⟩] :=
    (Filled.cons 15 e15 (Filled.cons 14 e14 (Filled.cons 13 e13 (Filled.cons 12 e12 (Filled.cons 11 e11 (Filled.cons 10 e10 (Filled.cons 9 e9 (Filled.cons 8 e8 (Filled.cons 7 e7 (Filled.cons 6 e6 (Filled.cons 5 e5 (Filled.cons 4 e4 (Filled.cons 3 e3 (Filled.cons 2 e2 (Filled.cons 1 e1 (Filled.cons 0 e0 ⟨fun _ h => absurd h List.not_mem_nil, fun n h => absurd h (Nat.not_lt_zero _)⟩))))))))))))))))
  exact read_words H.1 (fun n => H.2 n n.isLt) v f

/-- The last word of the moved history is the new one. -/
theorem shifted_last (x0 : Vec Ideal S16 .f32) {w a : EReal} (h : w = a) : w = shifted x0 a (ix1 15) := by
  unfold shifted
  rw [dif_neg (by decide)]
  exact h

/-- The whole loop at a grid point: what its pieces hold and the maximum it hands on. -/
theorem loop_state (𝒱 : Variants) (c : Dev nD) (bd : Option 𝒱.V) (i : grid0.Coords) (arg2 : Memref sig .tc .smem S16 .f32) (harg2 : arg2.IsWhole) (arg3 : Memref sig .tc .vmem S2x16x640 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x16 .f32) (harg6 : arg6.IsWhole) (arg7 : Memref sig .tc .vmem S2x1x128x5120 .fp8e4m3) (harg7 : arg7.IsWhole) (arg8 : Memref sig .tc .vmem S1x128x5120 .bf16) (harg8 : arg8.IsWhole) (arg9 : Memref sig .tc .vmem S1x128x5120 .bf16) (harg9 : arg9.IsWhole) (arg10 : Memref sig .tc .smem S1 .f32) (harg10 : arg10.IsWhole) (arg11 : Memref sig .tc .smem S16 .f32) (harg11 : arg11.IsWhole) (arg12 : Memref sig .tc .vmem S1x128x5120 .fp8e4m3) (harg12 : arg12.IsWhole) (arg13 : Memref sig .tc .smem S1 .f32) (harg13 : arg13.IsWhole) (arg14 : Memref sig .tc .vmem S2x128x128 .f32) (harg14 : arg14.IsWhole) (arg15 : Memref sig .tc .vmem S32x128 .f32) (harg15 : arg15.IsWhole)
    (x1 : Vec Ideal S2x16x640 .f32) (x2 : Vec Ideal S1x5120 .f32) (x3 : Vec Ideal S1x5120 .f32) (x4 : Vec Ideal S1x16 .f32)
    (x5 : Vec Ideal S2x1x128x5120 .fp8e4m3) (x6 : Vec Ideal S1x128x5120 .bf16) (G9 : BufTy.Contents (Elt Ideal) arg9.view.ty) (G12 : BufTy.Contents (Elt Ideal) arg12.view.ty)
    {v45 : FVec Ideal S32x128 .f32} {X14 : BufTy.Contents (Elt Ideal) arg14.view.ty} {init : Vec Ideal S32x128 .f32}
    {X4 : BufTy.Contents (Elt Ideal) arg4.view.ty} {X5 : BufTy.Contents (Elt Ideal) arg5.view.ty} {X7 : BufTy.Contents (Elt Ideal) arg7.view.ty} {X8 : BufTy.Contents (Elt Ideal) arg8.view.ty}
    (h4 : arg4.view.read (Elt Ideal) X4 = x2) (h5 : arg5.view.read (Elt Ideal) X5 = x3) (h7 : arg7.view.read (Elt Ideal) X7 = x5) (h8 : arg8.view.read (Elt Ideal) X8 = x6)
    (hS : Scaled arg14 X14 (scaleOf i x1)) (hv : ∀ j, v45 j = invOf x4) :
    State (out9 i x1 x2 x5 x6) (out12 i x1 x2 x3 x4 x5 x6) (nrmOf i x1 x2 x3 x5 x6) init k0_t1_loop.trips
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 G9 G12 init k0_t1_loop.trips) := by
  subst h4 h5 h7 h8
  exact state 𝒱 c bd i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 G9 G12 init hS hv k0_t1_loop.trips le_rfl

/-- The largest entry of the scratch as just stored. -/
theorem amax_load (arg15 : Memref sig .tc .vmem S32x128 .f32) (w : Vec Ideal S32x128 .f32) {h h'} :
    View.readCov arg15.view [⟨Rect.unit (s := S32x128) ![0, 0] S32x128.size h, k0_pay6 (F := Ideal) w⟩] (Rect.unit (s := S32x128) ![0, 0] S32x128.size h').toLoadRect = w := by
  refine (View.readCov_unit_zero (S := S32x128) arg15.view zero2 h _).trans (relay_id w)

end Cert.KernelIdeal.Tile
end
-- ==== Proof.KI.Run.lean ====
/- One run of the whole body of the kernel at any grid point, with what it leaves in every result. -/
module

public import proofs.«01_k».proof.Proof.KI.Vals
public import Idealize.ShloMosaic.Lib.Pipeline.FrameBody

@[expose] public section

-- membership in a rectangle of production extents (`View.cover_of_tiled`): the elaborator's structural look
-- recurses once per coordinate of the long axes
set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ### What the loop leaves, in the places where the body stores it -/

section
variable (c : Dev nD) (i : grid0.Coords) (arg2 : Memref sig .tc .smem S16 .f32) (harg2 : arg2.IsWhole) (arg3 : Memref sig .tc .vmem S2x16x640 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x16 .f32) (harg6 : arg6.IsWhole) (arg7 : Memref sig .tc .vmem S2x1x128x5120 .fp8e4m3) (harg7 : arg7.IsWhole) (arg8 : Memref sig .tc .vmem S1x128x5120 .bf16) (harg8 : arg8.IsWhole) (arg9 : Memref sig .tc .vmem S1x128x5120 .bf16) (harg9 : arg9.IsWhole) (arg10 : Memref sig .tc .smem S1 .f32) (harg10 : arg10.IsWhole) (arg11 : Memref sig .tc .smem S16 .f32) (harg11 : arg11.IsWhole) (arg12 : Memref sig .tc .vmem S1x128x5120 .fp8e4m3) (harg12 : arg12.IsWhole) (arg13 : Memref sig .tc .smem S1 .f32) (harg13 : arg13.IsWhole) (arg14 : Memref sig .tc .vmem S2x128x128 .f32) (harg14 : arg14.IsWhole) (arg15 : Memref sig .tc .vmem S32x128 .f32) (harg15 : arg15.IsWhole)
  {x1 : Vec Ideal S2x16x640 .f32} {x2 : Vec Ideal S1x5120 .f32} {x3 : Vec Ideal S1x5120 .f32} {x4 : Vec Ideal S1x16 .f32} {x5 : Vec Ideal S2x1x128x5120 .fp8e4m3} {x6 : Vec Ideal S1x128x5120 .bf16} {xs : Vec Ideal S32x128 .f32}
  {G9 : BufTy.Contents (Elt Ideal) arg9.view.ty} {G12 : BufTy.Contents (Elt Ideal) arg12.view.ty}
  {v45 : FVec Ideal S32x128 .f32} {X14 : BufTy.Contents (Elt Ideal) arg14.view.ty} {init : Vec Ideal S32x128 .f32}
  {X4 : BufTy.Contents (Elt Ideal) arg4.view.ty} {X5 : BufTy.Contents (Elt Ideal) arg5.view.ty} {X7 : BufTy.Contents (Elt Ideal) arg7.view.ty} {X8 : BufTy.Contents (Elt Ideal) arg8.view.ty}
  (h4 : arg4.view.read (Elt Ideal) X4 = x2) (h5 : arg5.view.read (Elt Ideal) X5 = x3) (h7 : arg7.view.read (Elt Ideal) X7 = x5) (h8 : arg8.view.read (Elt Ideal) X8 = x6)
  (hS : Scaled arg14 X14 (scaleOf i x1)) (hv : ∀ j, v45 j = invOf x4) (hi : init = if firstPoint i then k0_pay279 (F := Ideal) else xs)
include h4 h5 h7 h8 hS hv

/-- The residual block, -/
theorem leaves9 : arg9.view.read (Elt Ideal) (arg9.view.writes (Elt Ideal) G9 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 G9 G12 init k0_t1_loop.trips).2.1) = out9 i x1 x2 x5 x6 :=
  have S := loop_state Variants.none c none i arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 G9 G12 (init := init) h4 h5 h7 h8 hS hv
  read_block S.under9 S.chunk9 arg9 G9

/-- the block of codes, -/
theorem leaves12 : arg12.view.read (Elt Ideal) (arg12.view.writes (Elt Ideal) G12 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 G9 G12 init k0_t1_loop.trips).2.2) = out12 i x1 x2 x3 x4 x5 x6 :=
  have S := loop_state Variants.none c none i arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 G9 G12 (init := init) h4 h5 h7 h8 hS hv
  read_block S.under12 S.chunk12 arg12 G12

include hi
/-- and the running maximum. -/
theorem leaves15 : (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 v45 X4 X5 X7 X8 X14 G9 G12 init k0_t1_loop.trips).1 = out15 i x1 x2 x3 x5 x6 xs := by
  have S := loop_state Variants.none c none i arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 G9 G12 (init := init) h4 h5 h7 h8 hS hv
  refine (acc_eq S).trans ?_
  unfold out15
  rw [hi]

end

/-- A load of the whole history row. -/
theorem row_load (arg6 : Memref sig .tc .vmem S1x16 .f32) {X : BufTy.Contents (Elt Ideal) arg6.view.ty} {x4 : Vec Ideal S1x16 .f32} (h : arg6.view.read (Elt Ideal) X = x4)
    {hb : ∀ a, (![0, 0] : Fin S1x16.rank → ℕ) a + S1x16.size a ≤ S1x16.size a} : View.readAt (Elt Ideal) arg6.view (Rect.unit (s := S1x16) ![0, 0] S1x16.size hb).toLoadRect X = x4 := by
  rw [View.readAt_eq_ld]
  exact (View.ld_unit_zero (S := S1x16) (by funext a; fin_cases a <;> rfl) hb _).trans h

/-- The inverse scale the body spreads over its rows. -/
theorem inv_load (arg6 : Memref sig .tc .vmem S1x16 .f32) {X : BufTy.Contents (Elt Ideal) arg6.view.ty} {x4 : Vec Ideal S1x16 .f32} (h : arg6.view.read (Elt Ideal) X = x4)
    {hb : ∀ a, (![0, 0] : Fin S1x16.rank → ℕ) a + S1x16.size a ≤ S1x16.size a} (j : S32x128.Idx) :
    k0_pay283 (F := Ideal) (k0_pay281 (F := Ideal) (View.readAt (Elt Ideal) arg6.view (Rect.unit (s := S1x16) ![0, 0] S1x16.size hb).toLoadRect X)) 255#32 k0_pay282 j = invOf x4 := by
  rw [row_load arg6 h]
  exact inv_apply _ j

/-- The scratch of row scales, from the scales' contents. -/
theorem scaled_load (arg3 : Memref sig .tc .vmem S2x16x640 .f32) (arg14 : Memref sig .tc .vmem S2x128x128 .f32) (i : grid0.Coords)
    {X3 : BufTy.Contents (Elt Ideal) arg3.view.ty} (f : BufTy.Contents (Elt Ideal) arg14.view.ty) {x1 : Vec Ideal S2x16x640 .f32} (h : arg3.view.read (Elt Ideal) X3 = x1) {h1 h2 h3 h4} :
    Scaled arg14 (arg14.view.writes (Elt Ideal) f
      [⟨Rect.unit (s := S2x128x128) ![1, 0, 0] S1x128x128.size h1, k0_pay1 (F := Ideal) (k0_pay285 (F := Ideal) (BitVec.ofNat 32 (i 0).val)
          (View.readAt (Elt Ideal) arg3.view (Rect.unit (s := S2x16x640) (k0_off2 i) S1x16x128.size h2).toLoadRect X3))⟩,
       ⟨Rect.unit (s := S2x128x128) ![0, 0, 0] S1x128x128.size h3, k0_pay284 (F := Ideal) (BitVec.ofNat 32 (i 0).val)
          (View.readAt (Elt Ideal) arg3.view (Rect.unit (s := S2x16x640) (k0_off1 i) S1x16x128.size h4).toLoadRect X3)⟩])
      (scaleOf i x1) := by
  subst h
  exact scaled_scratch arg3 arg14 i X3 f

/-- The loop's first maximum, from what the scratch held. -/
theorem init_load (i : grid0.Coords) (arg15 : Memref sig .tc .vmem S32x128 .f32) {f : BufTy.Contents (Elt Ideal) arg15.view.ty} {xs : Vec Ideal S32x128 .f32}
    (e : arg15.view.read (Elt Ideal) f = xs) {hc : Decidable (firstPoint i)} {h h'} :
    View.readAt (Elt Ideal) arg15.view (Rect.unit (s := S32x128) ![0, 0] S32x128.size h).toLoadRect
      (@dite _ (firstPoint i) hc (fun _ => arg15.view.writes (Elt Ideal) f [⟨Rect.unit (s := S32x128) ![0, 0] S32x128.size h', k0_pay279 (F := Ideal)⟩]) fun _ => f)
      = if firstPoint i then k0_pay279 (F := Ideal) else xs := by
  subst e
  exact read_init i arg15 f hc

set_option maxHeartbeats 8000000 in
/-- On whole staging memrefs, the inputs' at their contents, the carried scratch at what the point before left and the others
    at anything, the body runs to the continuation, which holds the inputs' as they were, the residual, the codes and the
    running maximum of the point's blocks and, at the last point, the largest absolute value, the moved history and the scale. -/
theorem run (c : Dev nD) (i : grid0.Coords) (arg2 : Memref sig .tc .smem S16 .f32) (harg2 : arg2.IsWhole) (arg3 : Memref sig .tc .vmem S2x16x640 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x16 .f32) (harg6 : arg6.IsWhole) (arg7 : Memref sig .tc .vmem S2x1x128x5120 .fp8e4m3) (harg7 : arg7.IsWhole) (arg8 : Memref sig .tc .vmem S1x128x5120 .bf16) (harg8 : arg8.IsWhole) (arg9 : Memref sig .tc .vmem S1x128x5120 .bf16) (harg9 : arg9.IsWhole) (arg10 : Memref sig .tc .smem S1 .f32) (harg10 : arg10.IsWhole) (arg11 : Memref sig .tc .smem S16 .f32) (harg11 : arg11.IsWhole) (arg12 : Memref sig .tc .vmem S1x128x5120 .fp8e4m3) (harg12 : arg12.IsWhole) (arg13 : Memref sig .tc .smem S1 .f32) (harg13 : arg13.IsWhole) (arg14 : Memref sig .tc .vmem S2x128x128 .f32) (harg14 : arg14.IsWhole) (arg15 : Memref sig .tc .vmem S32x128 .f32) (harg15 : arg15.IsWhole)
    (x0 : Vec Ideal S16 .f32) (x1 : Vec Ideal S2x16x640 .f32) (x2 : Vec Ideal S1x5120 .f32) (x3 : Vec Ideal S1x5120 .f32) (x4 : Vec Ideal S1x16 .f32) (x5 : Vec Ideal S2x1x128x5120 .fp8e4m3) (x6 : Vec Ideal S1x128x5120 .bf16) (xs : Vec Ideal S32x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out9 i x1 x2 x5 x6) ∗ (∃ d, ⌜lastPoint i → d = fun _ => k0_pay277 (F := Ideal) (out15 i x1 x2 x3 x5 x6 xs)⌝ ∗ owns (c : Thread nD τ) arg10 fullShare d) ∗ (∃ d, ⌜lastPoint i → d = shifted x0 (k0_pay277 (F := Ideal) (out15 i x1 x2 x3 x5 x6 xs))⌝ ∗ owns (c : Thread nD τ) arg11 fullShare d) ∗ owns (c : Thread nD τ) arg12 fullShare (out12 i x1 x2 x3 x4 x5 x6) ∗ (∃ d, ⌜lastPoint i → d = fun _ => k0_pay278 (F := Ideal) (k0_pay280 (F := Ideal) x4)⌝ ∗ owns (c : Thread nD τ) arg13 fullShare d) ∗ (∃ d, owns (c : Thread nD τ) arg14 fullShare d) ∗ owns (c : Thread nD τ) arg15 fullShare (out15 i x1 x2 x3 x5 x6 xs)) -∗ K ⟨⟩))
      ⊢ wp frame (wpE (defs₀ (F := Ideal)) Variants.none c none) E (cc0_residual_rmsnorm_quant i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_residual_rmsnorm_quant_eq_skeleton]; unfold cc0_residual_rmsnorm_quant_skel
  simp only [k0_part50_eq_skeleton, k0_part51_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg15.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; exact leaves9 c i arg2 harg2 arg3 harg3 arg4 harg4 arg5 harg5 arg6 harg6 arg7 harg7 arg8 harg8 arg9 harg9 arg10 harg10 arg11 harg11 arg12 harg12 arg13 harg13 arg14 harg14 arg15 harg15 (harg4.read_unread x2) (harg5.read_unread x3) (harg7.read_unread x5) (harg8.read_unread x6) (scaled_load arg3 arg14 i _ (harg3.read_unread x1)) (inv_load arg6 (harg6.read_unread x4))
  isplitl [H8]
  · iexists _; isplitr; swap
    · iexists _; isplitr; swap; · iexact H8
      ipureintro; rfl
    ipureintro; intro hc
    refine (congrArg (arg10.view.read (Elt Ideal)) (dif_pos hc)).trans ((read_word arg10 f8 _).trans (funext fun _ => congrArg (k0_pay277 (F := Ideal)) ?_))
    exact (amax_load arg15 _).trans (leaves15 c i arg2 harg2 arg3 harg3 arg4 harg4 arg5 harg5 arg6 harg6 arg7 harg7 arg8 harg8 arg9 harg9 arg10 harg10 arg11 harg11 arg12 harg12 arg13 harg13 arg14 harg14 arg15 harg15 (harg4.read_unread x2) (harg5.read_unread x3) (harg7.read_unread x5) (harg8.read_unread x6) (scaled_load arg3 arg14 i _ (harg3.read_unread x1)) (inv_load arg6 (harg6.read_unread x4)) (init_load i arg15 (harg15.read_unread xs)))
  isplitl [H9]
  · iexists _; isplitr; swap
    · iexists _; isplitr; swap; · iexact H9
      ipureintro; rfl
    ipureintro; intro hc
    refine (congrArg (arg11.view.read (Elt Ideal)) (dif_pos hc)).trans (read_history arg11 f9 (shifted x0 (k0_pay277 (F := Ideal) (out15 i x1 x2 x3 x5 x6 xs))) (shifted_last x0 (congrArg (k0_pay277 (F := Ideal)) ?_)) (shift_word harg2 x0 _ 14 _) (shift_word harg2 x0 _ 13 _) (shift_word harg2 x0 _ 12 _) (shift_word harg2 x0 _ 11 _) (shift_word harg2 x0 _ 10 _) (shift_word harg2 x0 _ 9 _) (shift_word harg2 x0 _ 8 _) (shift_word harg2 x0 _ 7 _) (shift_word harg2 x0 _ 6 _) (shift_word harg2 x0 _ 5 _) (shift_word harg2 x0 _ 4 _) (shift_word harg2 x0 _ 3 _) (shift_word harg2 x0 _ 2 _) (shift_word harg2 x0 _ 1 _) (shift_word harg2 x0 _ 0 _))
    exact (amax_load arg15 _).trans (leaves15 c i arg2 harg2 arg3 harg3 arg4 harg4 arg5 harg5 arg6 harg6 arg7 harg7 arg8 harg8 arg9 harg9 arg10 harg10 arg11 harg11 arg12 harg12 arg13 harg13 arg14 harg14 arg15 harg15 (harg4.read_unread x2) (harg5.read_unread x3) (harg7.read_unread x5) (harg8.read_unread x6) (scaled_load arg3 arg14 i _ (harg3.read_unread x1)) (inv_load arg6 (harg6.read_unread x4)) (init_load i arg15 (harg15.read_unread xs)))
  isplitl [H10]
  · iexists _; isplitr; swap; · iexact H10
    ipureintro; exact leaves12 c i arg2 harg2 arg3 harg3 arg4 harg4 arg5 harg5 arg6 harg6 arg7 harg7 arg8 harg8 arg9 harg9 arg10 harg10 arg11 harg11 arg12 harg12 arg13 harg13 arg14 harg14 arg15 harg15 (harg4.read_unread x2) (harg5.read_unread x3) (harg7.read_unread x5) (harg8.read_unread x6) (scaled_load arg3 arg14 i _ (harg3.read_unread x1)) (inv_load arg6 (harg6.read_unread x4))
  isplitl [H11]
  · iexists _; isplitr; swap
    · iexists _; isplitr; swap; · iexact H11
      ipureintro; rfl
    ipureintro; intro hc
    refine (congrArg (arg13.view.read (Elt Ideal)) (dif_pos hc)).trans ((read_word arg13 f11 _).trans (funext fun _ => congrArg (fun v => k0_pay278 (F := Ideal) (k0_pay280 (F := Ideal) v)) ?_))
    exact row_load arg6 (harg6.read_unread x4)
  isplitl [HS0]
  · iexists _; iexists _; isplitr; swap; · iexact HS0
    ipureintro; rfl
  iexists _; isplitr; swap; · iexact HS1
  ipureintro; exact (read_whole arg15 _ _).trans (leaves15 c i arg2 harg2 arg3 harg3 arg4 harg4 arg5 harg5 arg6 harg6 arg7 harg7 arg8 harg8 arg9 harg9 arg10 harg10 arg11 harg11 arg12 harg12 arg13 harg13 arg14 harg14 arg15 harg15 (harg4.read_unread x2) (harg5.read_unread x3) (harg7.read_unread x5) (harg8.read_unread x6) (scaled_load arg3 arg14 i _ (harg3.read_unread x1)) (inv_load arg6 (harg6.read_unread x4)) (init_load i arg15 (harg15.read_unread xs)))

end Cert.KernelIdeal.Tile

end
-- ==== Proof.KI.Frame.lean ====
/- The run of the kernel over its whole grid, with what every window's staging buffer holds after each point, and its frame. -/
module

public import proofs.«01_k».proof.Proof.KI.Run
public import proofs.«01_k».proof.Proof.Gen.KernelIdeal.Frame
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The condition of the body's `scf.if` 0 from the grid coordinates (the skeleton's scalar
    chain substituted). -/
abbrev cond0_0 (i : grid0.Coords) : Prop := firstPoint i
/-- It holds at the first point only — by arithmetic of the point. -/
theorem hcond0_0 : ∀ t : Fin cfg0.N, cond0_0 (grid0.coords t) ↔ t.val % 80 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_0, firstPoint, e0, e1]
    word_cmp
   : ∀ t : Fin grid0.N, cond0_0 (grid0.coords t) ↔ t.val % 80 = 0)

/-- The condition of the body's `scf.if` 1 (`k0_h2`), from the grid coordinates (the skeleton's scalar
    chain substituted). -/
abbrev cond0_1 (i : grid0.Coords) : Prop := lastPoint i
/-- It holds at the last point only — by arithmetic of the point. -/
theorem hcond0_1 : ∀ t : Fin cfg0.N, cond0_1 (grid0.coords t) ↔ t.val % 80 = 79 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_1, lastPoint, k0_cond2, e0, e1]
    word_cmp
   : ∀ t : Fin grid0.N, cond0_1 (grid0.coords t) ↔ t.val % 80 = 79)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The staging memrefs -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x16x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x128x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x5120 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x5120 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x5120 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S1 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x128x128 .f32 := Memref.whole cc0_scratch0
abbrev scM0_1 : Memref sig .tc .vmem S32x128 .f32 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt Ideal) ℓ) (ρ : Dev nD → PrngReg)

/-! ## The pipeline's proof data -/

/-- One point's running maximum over its blocks, from the one before it. -/
def accStep (c : Dev nD) (t : Fin cfg0.N) (xs : Vec Ideal S32x128 .f32) : Vec Ideal S32x128 .f32 :=
  out15 (grid0.coords t) (iblk m c 1 t) (iblk m c 2 t) (iblk m c 3 t) (iblk m c 5 t) (iblk m c 6 t) xs

/-- The running maximum before point `n`. -/
def acc (c : Dev nD) : ℕ → Vec Ideal S32x128 .f32
  | 0 => k0_pay279 (F := Ideal)
  | n + 1 => if h : n < cfg0.N then accStep m c ⟨n, h⟩ (acc c n) else acc c n

theorem acc_succ (c : Dev nD) (t : Fin cfg0.N) : acc m c (t.val + 1) = accStep m c t (acc m c t.val) := by
  rw [acc, dif_pos t.isLt]

/-- What the scratch holds matters from the second point on. -/
theorem accStep_of (c : Dev nD) (t : Fin cfg0.N) (d : Vec Ideal S32x128 .f32) (h : t.val ≠ 0 → d = acc m c t.val) :
    accStep m c t d = acc m c (t.val + 1) := by
  rw [acc_succ]
  by_cases e : t.val = 0
  · have f : firstPoint (grid0.coords t) := (hcond0_0 t).2 (by rw [e])
    unfold accStep out15
    rw [if_pos f, if_pos f]
  · rw [h e]

/-- The largest absolute value over the points before `n`. -/
def amaxAt (c : Dev nD) (n : ℕ) : EReal := k0_pay277 (F := Ideal) (acc m c n)

/-- Before each point: the scratch of row scales at anything, the running maximum from the second point on. -/
def Φat (c : Dev nD) (n : ℕ) : sProp 𝕄 :=
  iprop(iprop((∃ d, owns (c : Thread nD τ) scM0_0 fullShare d) ∗ (∃ d, ⌜n ≠ 0 → d = acc m c n⌝ ∗ owns (c : Thread nD τ) scM0_1 fullShare d)) ∗ (∃ r, prngReg c r))

/-- The proof data: every input's buffer stays at its block; the outputs' are at the body's values. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out9 (grid0.coords t) (iblk m c 1 t) (iblk m c 2 t) (iblk m c 5 t) (iblk m c 6 t)
    | ⟨8, _⟩ => fun _ => amaxAt m c (t.val + 1)
    | ⟨9, _⟩ => shifted (iblk m c 0 t) (amaxAt m c (t.val + 1))
    | ⟨10, _⟩ => out12 (grid0.coords t) (iblk m c 1 t) (iblk m c 2 t) (iblk m c 3 t) (iblk m c 4 t) (iblk m c 5 t) (iblk m c 6 t)
    | ⟨11, _⟩ => fun _ => k0_pay278 (F := Ideal) (k0_pay280 (F := Ideal) (iblk m c 4 t))
  Φ t := Φat m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (out9 (grid0.coords t) (iblk m c 1 t) (iblk m c 2 t) (iblk m c 5 t) (iblk m c 6 t)) := by dsimp only [dats]
theorem after0_8 (c : Dev nD) (t : Fin cfg0.N) : (dats m 0 c).after 8 t = (fun _ => amaxAt m c (t.val + 1)) := by dsimp only [dats]
theorem after0_9 (c : Dev nD) (t : Fin cfg0.N) : (dats m 0 c).after 9 t = (shifted (iblk m c 0 t) (amaxAt m c (t.val + 1))) := by dsimp only [dats]
theorem after0_10 (c : Dev nD) (t : Fin cfg0.N) : (dats m 0 c).after 10 t = (out12 (grid0.coords t) (iblk m c 1 t) (iblk m c 2 t) (iblk m c 3 t) (iblk m c 4 t) (iblk m c 5 t) (iblk m c 6 t)) := by dsimp only [dats]
theorem after0_11 (c : Dev nD) (t : Fin cfg0.N) : (dats m 0 c).after 11 t = (fun _ => k0_pay278 (F := Ideal) (k0_pay280 (F := Ideal) (iblk m c 4 t))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The windows written at the last point only -/

/-- A window idle but at the last point, where it is written back, is found as it was at the first. -/
theorem before_idle (c : Dev nD) (w : Fin cfg0.W) (hfetch : ∀ t, (cfg0.win w).fetch t = false)
    (hflush : ∀ t : Fin cfg0.N, (cfg0.win w).flush t = true ↔ t.val % 80 = 79)
    (hidle : ∀ t : Fin cfg0.N, ¬ lastPoint (grid0.coords t) → cfg0.idle w (cfg0.grid.coords t) = true) (t : Fin cfg0.N) (d) :
    (dats m 0 c).before w t d = d := by
  refine (Pipeline.Dat.before_idle_run (dats m 0 c) w hfetch d t.val t le_rfl fun j _ hj => ?_).trans ?_
  · have ht : t.val < 80 := Nat.lt_of_lt_of_eq t.isLt N_0
    have hn : ¬ j.val % 80 = 79 := by omega
    exact ⟨hidle j fun h => hn ((hcond0_1 j).1 h), by
      cases e : (cfg0.win w).flush j
      · rfl
      · exact absurd ((hflush j).1 e) hn⟩
  · unfold Dat.before
    rw [if_neg (by rw [hfetch]; exact Bool.false_ne_true), if_pos (Nat.sub_self _)]

/-- What the body owes of such a window: its value at the last point, anything at the others. -/
theorem leaves_last (c : Dev nD) (w : Fin cfg0.W) (hfetch : ∀ t, (cfg0.win w).fetch t = false)
    (hflush : ∀ t : Fin cfg0.N, (cfg0.win w).flush t = true ↔ t.val % 80 = 79)
    (hidle : ∀ t : Fin cfg0.N, ¬ lastPoint (grid0.coords t) → cfg0.idle w (cfg0.grid.coords t) = true) (t : Fin cfg0.N) :
    iprop(∃ d, ⌜lastPoint (grid0.coords t) → d = (dats m 0 c).after w t⌝ ∗ owns (c : Thread nD τ) ((cfg0.win w).stage (cfg0.slots t w)) fullShare d)
      ⊢ ((dats m 0 c).leavesExact w t : sProp 𝕄) := by
  iintro ⟨%d, %hd, H⟩
  by_cases h : lastPoint (grid0.coords t)
  · have e : (dats m 0 c).leavesExact w t = owns (c : Thread nD τ) ((cfg0.win w).stage (cfg0.slots t w)) fullShare ((dats m 0 c).after w t) := by
      unfold Dat.leavesExact
      rw [(hflush t).2 ((hcond0_1 t).1 h)]
      cases cfg0.idle w (cfg0.grid.coords t) <;> rfl
    rw [e, ← hd h]
    iexact H
  · have hn : (cfg0.win w).flush t = false := by
      cases e : (cfg0.win w).flush t
      · rfl
      · exact absurd ((hcond0_1 t).2 ((hflush t).1 e)) h
    rw [Pipeline.Dat.leavesExact_idle (dats m 0 c) w t (hidle t h) hn]
    iexists d
    rw [before_idle m c w hfetch hflush hidle t d]
    iexact H

theorem idle_not (w : Fin cfg0.W) (i : grid0.Coords) (hw : cfg0.idle w i = !(k0_cond2 i == 1#1)) (h : ¬ lastPoint i) : cfg0.idle w i = true := by
  rw [hw, Bool.not_eq_true', beq_eq_false_iff_ne]
  exact h

theorem leaves0_8 (c : Dev nD) (t : Fin cfg0.N) :
    iprop(∃ d, ⌜lastPoint (grid0.coords t) → d = (dats m 0 c).after 8 t⌝ ∗ owns (c : Thread nD τ) (ms0_8 t) fullShare d)
      ⊢ ((dats m 0 c).leavesExact 8 t : sProp 𝕄) :=
  leaves_last m c 8 (fun _ => rfl) flush0_8 (fun t => idle_not 8 _ rfl) t
theorem leaves0_9 (c : Dev nD) (t : Fin cfg0.N) :
    iprop(∃ d, ⌜lastPoint (grid0.coords t) → d = (dats m 0 c).after 9 t⌝ ∗ owns (c : Thread nD τ) (ms0_9 t) fullShare d)
      ⊢ ((dats m 0 c).leavesExact 9 t : sProp 𝕄) :=
  leaves_last m c 9 (fun _ => rfl) flush0_9 (fun t => idle_not 9 _ rfl) t
theorem leaves0_11 (c : Dev nD) (t : Fin cfg0.N) :
    iprop(∃ d, ⌜lastPoint (grid0.coords t) → d = (dats m 0 c).after 11 t⌝ ∗ owns (c : Thread nD τ) (ms0_11 t) fullShare d)
      ⊢ ((dats m 0 c).leavesExact 11 t : sProp 𝕄) :=
  leaves_last m c 11 (fun _ => rfl) flush0_11 (fun t => idle_not 11 _ rfl) t

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at any point: the inputs' memrefs hold their blocks (`before0_W`), so the run applies; the scratch and the
    generator register are at some state before and after; the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Φat m c (t.val + 1) from rfl, show (dats m 0 c).Φ t.castSucc = Φat m c t.val from rfl]
  unfold Φat
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [show (dats m 0 c).leavesExact 10 t = owns (c : Thread nD τ) (ms0_10 t) fullShare ((dats m 0 c).after 10 t) from by
    unfold Dat.leavesExact; rw [show cfg0.idle 10 (grid0.coords t) = false from rfl], after0_10]
  iintro ⟨⟨⟨HS0, ⟨%dS, %hdS, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) dS Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  have hA : accStep m c t dS = acc m c (t.val + 1) := accStep_of m c t dS hdS
  have hM : k0_pay277 (F := Ideal) (accStep m c t dS) = amaxAt m c (t.val + 1) := by rw [hA]; rfl
  isplitl [HS0 HS1 Hg]
  · isplitl [HS0 HS1]
    · isplitl [HS0]
      · iexact HS0
      iexists _; isplitr; swap
      · iexact HS1
      ipureintro; exact fun _ => hA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves0_8 m c t)
    icases H8 with ⟨%d8, %h8, H8⟩
    iexists d8; isplitr; swap
    · iexact H8
    ipureintro; exact fun hl => (h8 hl).trans ((funext fun _ => hM).trans (after0_8 m c t).symm)
  isplitl [H9]
  · iapply (leaves0_9 m c t)
    icases H9 with ⟨%d9, %h9, H9⟩
    iexists d9; isplitr; swap
    · iexact H9
    ipureintro; exact fun hl => (h9 hl).trans ((congrArg (shifted (iblk m c 0 t)) hM).trans (after0_9 m c t).symm)
  isplitl [H10]; · iexact H10
  iapply (leaves0_11 m c t)
  icases H11 with ⟨%d11, %h11, H11⟩
  iexists d11; isplitr; swap
  · iexact H11
  ipureintro; exact fun hl => (h11 hl).trans (after0_11 m c t).symm

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch's invariant gives the first point's, -/
theorem hin (c : Dev nD) : Pipeline.ΦA spec0 c ⊢ (dats m 0 c).Φ 0 := by
  rw [show (dats m 0 c).Φ 0 = Φat m c 0 from rfl, PhiA0_eq]
  unfold Φat
  iintro ⟨⟨HS0, ⟨%d, HS1⟩⟩, Hg⟩
  isplitl [HS0 HS1]
  · isplitl [HS0]
    · iexact HS0
    iexists d; isplitr; swap
    · iexact HS1
    ipureintro; exact fun h => absurd rfl h
  iexact Hg

/-- and the last point's gives it back. -/
theorem hout (c : Dev nD) : (dats m 0 c).Φ (Fin.last cfg0.N) ⊢ Pipeline.ΦA spec0 c := by
  rw [show (dats m 0 c).Φ (Fin.last cfg0.N) = Φat m c cfg0.N from rfl, PhiA0_eq]
  unfold Φat
  iintro ⟨⟨HS0, ⟨%d, -, HS1⟩⟩, Hg⟩
  isplitl [HS0 HS1]
  · isplitl [HS0]
    · iexact HS0
    iexists d
    iexact HS1
  iexact Hg

/-! ## The run and the frame -/

set_option backward.isDefEq.respectTransparency.types false in
/-- The whole run: every array at its contents after every write-back, and every semaphore counter zero. -/
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run ends, the arguments unchanged and every semaphore counter zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Tile

end
-- ==== Proof.KI.Arrays.lean ====
/- What the kernel's five result arrays hold after the run, over the extended reals, as functions of
   the argument arrays. -/
module

public import proofs.«01_k».proof.Proof.KI.Frame
public import Idealize.ShloMosaic.Lib.Pipeline.Value

@[expose] public section
set_option maxRecDepth 16384
noncomputable section
namespace Cert.KernelIdeal.Tile
open Cert.KernelIdeal Cert.KernelIdeal.Gen Idealize.ShloMosaic Idealize.ShloMosaic.TcCoe Idealize.SL.Sem
open Idealize.ShloMosaic.Pipeline (Dat)

/-! ## The results as functions of the arguments -/

section
variable (P : Vec Ideal S2x16x640x5120 .fp8e4m3) (SC : Vec Ideal S2x16x640 .f32) (BI : Vec Ideal S5120 .f32) (X : Vec Ideal S16x640x5120 .bf16) (GA : Vec Ideal S5120 .f32)

/-- The residual: the two scaled shards, the bias and the input, added. -/
def resS (b : Fin 16) (s : Fin 640) (d : Fin 5120) : EReal :=
  (P (ix4 0 b s d) : EReal) * SC (ix3 0 b s) + (P (ix4 1 b s d) : EReal) * SC (ix3 1 b s) + BI (ix1 d) + X (ix3 b s d)

/-- The residual's row, normalised and scaled by the gain. -/
def nrmS (b : Fin 16) (s : Fin 640) (d : Fin 5120) : EReal :=
  resS P SC BI X b s d * rs (resS P SC BI X b s) * GA (ix1 d)

end

/-! ## The windows' blocks as parts of the arrays -/

/-- The batch of the grid's point `t`. -/
theorem coords0 (t : Fin cfg0.N) : (grid0.coords t 0).val = t.val / 5 := by
  have ht : t.val < 80 := Nat.lt_of_lt_of_eq t.isLt N_0
  have e0 : (grid0.coords t 0).val = t.val / 5 % 16 := Pipeline.Grid.coords_val t 0 (by decide) rfl
  omega

/-- The group of 128 rows of the grid's point `t`. -/
theorem coords1 (t : Fin cfg0.N) : (grid0.coords t 1).val = t.val % 5 := by
  have e1 : (grid0.coords t 1).val = t.val / 1 % 5 := Pipeline.Grid.coords_val t 1 (by decide) rfl
  omega

/-- The block index of each window at each point: the whole arrays stay at block zero, the tiles follow the point. -/
theorem idx0 : ∀ t : Fin cfg0.N, win0_0.index t (0 : Fin 1) = 0 := (by decide +kernel : ∀ t : Fin grid0.N, _)
theorem idx1 : ∀ t : Fin cfg0.N, win0_1.index t (0 : Fin 3) = 0 ∧ win0_1.index t (1 : Fin 3) = 0 ∧ win0_1.index t (2 : Fin 3) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 4) = 0 ∧ win0_5.index t (1 : Fin 4) = (grid0.coords t 0).val ∧ win0_5.index t (2 : Fin 4) = (grid0.coords t 1).val ∧ win0_5.index t (3 : Fin 4) = 0 := (by decide +kernel : ∀ t : Fin grid0.N, _)
theorem idx6 : ∀ t : Fin cfg0.N, win0_6.index t (0 : Fin 3) = (grid0.coords t 0).val ∧ win0_6.index t (1 : Fin 3) = (grid0.coords t 1).val ∧ win0_6.index t (2 : Fin 3) = 0 := (by decide +kernel : ∀ t : Fin grid0.N, _)
theorem idx7 : ∀ t : Fin cfg0.N, win0_7.index t (0 : Fin 3) = (grid0.coords t 0).val ∧ win0_7.index t (1 : Fin 3) = (grid0.coords t 1).val ∧ win0_7.index t (2 : Fin 3) = 0 := (by decide +kernel : ∀ t : Fin grid0.N, _)
theorem idx8 : ∀ t : Fin cfg0.N, win0_8.index t (0 : Fin 1) = 0 := (by decide +kernel : ∀ t : Fin grid0.N, _)
theorem idx9 : ∀ t : Fin cfg0.N, win0_9.index t (0 : Fin 1) = 0 := (by decide +kernel : ∀ t : Fin grid0.N, _)
theorem idx10 : ∀ t : Fin cfg0.N, win0_10.index t (0 : Fin 3) = (grid0.coords t 0).val ∧ win0_10.index t (1 : Fin 3) = (grid0.coords t 1).val ∧ win0_10.index t (2 : Fin 3) = 0 := (by decide +kernel : ∀ t : Fin grid0.N, _)
theorem idx11 : ∀ t : Fin cfg0.N, win0_11.index t (0 : Fin 1) = 0 := (by decide +kernel : ∀ t : Fin grid0.N, _)

/-- An index of window 0's block is the same index of its array; likewise for the other whole arrays below. -/
theorem emb0 (t : Fin cfg0.N) (j : S16.Idx) : ((cfg0.win 0).blk t).view.emb j = j := by
  have e0 := idx0 t
  funext a; apply Fin.ext
  match a with
  | ⟨0, _⟩ => show win0_0.index t (0 : Fin 1) * 16 + 1 * (j 0).val = (j 0).val; omega
theorem emb1 (t : Fin cfg0.N) (j : S2x16x640.Idx) : ((cfg0.win 1).blk t).view.emb j = j := by
  obtain ⟨e0, e1, e2⟩ := idx1 t
  funext a; apply Fin.ext
  match a with
  | ⟨0, _⟩ => show win0_1.index t (0 : Fin 3) * 2 + 1 * (j 0).val = (j 0).val; omega
  | ⟨1, _⟩ => show win0_1.index t (1 : Fin 3) * 16 + 1 * (j 1).val = (j 1).val; omega
  | ⟨2, _⟩ => show win0_1.index t (2 : Fin 3) * 640 + 1 * (j 2).val = (j 2).val; omega
theorem emb2 (t : Fin cfg0.N) (j : S1x5120.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 5120 + 1 * (j 1).val = (j 1).val; omega
theorem emb3 (t : Fin cfg0.N) (j : S1x5120.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 5120 + 1 * (j 1).val = (j 1).val; omega
theorem emb4 (t : Fin cfg0.N) (j : S1x16.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 16 + 1 * (j 1).val = (j 1).val; omega
/-- Row `r` of window 5's block is row `128 c + r` of its batch, in both shards. -/
theorem emb5 (t : Fin cfg0.N) (p : Fin 2) (z : Fin 1) (r : Fin 128) (d : Fin 5120) :
    ((cfg0.win 5).blk t).view.emb (ix4 p z r d : S2x1x128x5120.Idx) = (ix4 p (bat (grid0.coords t)) (seqr (grid0.coords t) r) d : S2x16x640x5120.Idx) := by
  obtain ⟨e0, e1, e2, e3⟩ := idx5 t
  have hz := z.isLt
  funext a; apply Fin.ext
  match a with
  | ⟨0, _⟩ => show win0_5.index t (0 : Fin 4) * 2 + 1 * p.val = p.val; omega
  | ⟨1, _⟩ => show win0_5.index t (1 : Fin 4) * 1 + 1 * z.val = (grid0.coords t 0).val; omega
  | ⟨2, _⟩ => show win0_5.index t (2 : Fin 4) * 128 + 1 * r.val = 128 * (grid0.coords t 1).val + r.val; omega
  | ⟨3, _⟩ => show win0_5.index t (3 : Fin 4) * 5120 + 1 * d.val = d.val; omega
/-- Row `r` of window 6's block is row `128 c + r` of its batch; likewise for the two tiled results. -/
theorem emb6 (t : Fin cfg0.N) (z : Fin 1) (r : Fin 128) (d : Fin 5120) :
    ((cfg0.win 6).blk t).view.emb (ix3 z r d : S1x128x5120.Idx) = (ix3 (bat (grid0.coords t)) (seqr (grid0.coords t) r) d : S16x640x5120.Idx) := by
  obtain ⟨e0, e1, e2⟩ := idx6 t
  have hz := z.isLt
  funext a; apply Fin.ext
  match a with
  | ⟨0, _⟩ => show win0_6.index t (0 : Fin 3) * 1 + 1 * z.val = (grid0.coords t 0).val; omega
  | ⟨1, _⟩ => show win0_6.index t (1 : Fin 3) * 128 + 1 * r.val = 128 * (grid0.coords t 1).val + r.val; omega
  | ⟨2, _⟩ => show win0_6.index t (2 : Fin 3) * 5120 + 1 * d.val = d.val; omega
theorem emb7 (t : Fin cfg0.N) (z : Fin 1) (r : Fin 128) (d : Fin 5120) :
    ((cfg0.win 7).blk t).view.emb (ix3 z r d : S1x128x5120.Idx) = (ix3 (bat (grid0.coords t)) (seqr (grid0.coords t) r) d : S16x640x5120.Idx) := by
  obtain ⟨e0, e1, e2⟩ := idx7 t
  have hz := z.isLt
  funext a; apply Fin.ext
  match a with
  | ⟨0, _⟩ => show win0_7.index t (0 : Fin 3) * 1 + 1 * z.val = (grid0.coords t 0).val; omega
  | ⟨1, _⟩ => show win0_7.index t (1 : Fin 3) * 128 + 1 * r.val = 128 * (grid0.coords t 1).val + r.val; omega
  | ⟨2, _⟩ => show win0_7.index t (2 : Fin 3) * 5120 + 1 * d.val = d.val; omega
theorem emb8 (t : Fin cfg0.N) (j : S1.Idx) : ((cfg0.win 8).blk t).view.emb j = j := by
  have e0 := idx8 t
  funext a; apply Fin.ext
  match a with
  | ⟨0, _⟩ => show win0_8.index t (0 : Fin 1) * 1 + 1 * (j 0).val = (j 0).val; omega
theorem emb9 (t : Fin cfg0.N) (j : S16.Idx) : ((cfg0.win 9).blk t).view.emb j = j := by
  have e0 := idx9 t
  funext a; apply Fin.ext
  match a with
  | ⟨0, _⟩ => show win0_9.index t (0 : Fin 1) * 16 + 1 * (j 0).val = (j 0).val; omega
theorem emb10 (t : Fin cfg0.N) (z : Fin 1) (r : Fin 128) (d : Fin 5120) :
    ((cfg0.win 10).blk t).view.emb (ix3 z r d : S1x128x5120.Idx) = (ix3 (bat (grid0.coords t)) (seqr (grid0.coords t) r) d : S16x640x5120.Idx) := by
  obtain ⟨e0, e1, e2⟩ := idx10 t
  have hz := z.isLt
  funext a; apply Fin.ext
  match a with
  | ⟨0, _⟩ => show win0_10.index t (0 : Fin 3) * 1 + 1 * z.val = (grid0.coords t 0).val; omega
  | ⟨1, _⟩ => show win0_10.index t (1 : Fin 3) * 128 + 1 * r.val = 128 * (grid0.coords t 1).val + r.val; omega
  | ⟨2, _⟩ => show win0_10.index t (2 : Fin 3) * 5120 + 1 * d.val = d.val; omega
theorem emb11 (t : Fin cfg0.N) (j : S1.Idx) : ((cfg0.win 11).blk t).view.emb j = j := by
  have e0 := idx11 t
  funext a; apply Fin.ext
  match a with
  | ⟨0, _⟩ => show win0_11.index t (0 : Fin 1) * 1 + 1 * (j 0).val = (j 0).val; omega

variable (m : (ℓ : Loc nD τ sig) → Buf (Elt Ideal) ℓ) (ρ : Dev nD → PrngReg)

/-! ### The arguments as the region finds them -/

/-- The two shards, -/
abbrev aP (c : Dev nD) : Vec Ideal S2x16x640x5120 .fp8e4m3 := m ((c : Thread nD τ).loc main_arg0)
/-- their row scales, -/
abbrev aSC (c : Dev nD) : Vec Ideal S2x16x640 .f32 := m ((c : Thread nD τ).loc main_arg1)
/-- the bias, -/
abbrev aBI (c : Dev nD) : Vec Ideal S5120 .f32 := m ((c : Thread nD τ).loc main_arg2)
/-- the input, -/
abbrev aX (c : Dev nD) : Vec Ideal S16x640x5120 .bf16 := m ((c : Thread nD τ).loc main_arg3)
/-- the gain -/
abbrev aGA (c : Dev nD) : Vec Ideal S5120 .f32 := m ((c : Thread nD τ).loc main_arg4)
/-- and the history of maxima. -/
abbrev aHI (c : Dev nD) : Vec Ideal S16 .f32 := m ((c : Thread nD τ).loc main_arg5)

/-- The bias as the region finds it: one row. -/
theorem V_main_v0 (c : Dev nD) : V m c main_v0 = shapeCast S1x5120 (aBI m c) shapeCasts_S5120_S1x5120 := by
  show StableHlo.after hostOps0 _ (Proc.devRef .tc main_v0) = _
  after_results
  rfl
/-- The gain as the region finds it: one row. -/
theorem V_main_v1 (c : Dev nD) : V m c main_v1 = shapeCast S1x5120 (aGA m c) shapeCasts_S5120_S1x5120 := by
  show StableHlo.after hostOps0 _ (Proc.devRef .tc main_v1) = _
  after_results
  rfl
/-- The history as the region finds it: one row. -/
theorem V_main_v2 (c : Dev nD) : V m c main_v2 = shapeCast S1x16 (aHI m c) shapeCasts_S16_S1x16 := by
  show StableHlo.after hostOps0 _ (Proc.devRef .tc main_v2) = _
  after_results
  rfl

/-- What each input window's block holds, of the arguments. -/
theorem iblk0_eq (c : Dev nD) (t : Fin cfg0.N) : iblk m c 0 t = aHI m c := by
  funext j; show V m c main_arg5 (((cfg0.win 0).blk t).view.emb j) = _; rw [emb0, V_main_arg5]
theorem iblk1_eq (c : Dev nD) (t : Fin cfg0.N) : iblk m c 1 t = aSC m c := by
  funext j; show V m c main_arg1 (((cfg0.win 1).blk t).view.emb j) = _; rw [emb1, V_main_arg1]
theorem iblk2_at (c : Dev nD) (t : Fin cfg0.N) (d : Fin 5120) : iblk m c 2 t (ix2 0 d : S1x5120.Idx) = aBI m c (ix1 d) := by
  show V m c main_v0 (((cfg0.win 2).blk t).view.emb (ix2 0 d : S1x5120.Idx)) = _
  rw [emb2, V_main_v0]; pointwise
theorem iblk3_at (c : Dev nD) (t : Fin cfg0.N) (d : Fin 5120) : iblk m c 3 t (ix2 0 d : S1x5120.Idx) = aGA m c (ix1 d) := by
  show V m c main_v1 (((cfg0.win 3).blk t).view.emb (ix2 0 d : S1x5120.Idx)) = _
  rw [emb3, V_main_v1]; pointwise
theorem iblk4_at (c : Dev nD) (t : Fin cfg0.N) (n : Fin 16) : iblk m c 4 t (ix2 0 n : S1x16.Idx) = aHI m c (ix1 n) := by
  show V m c main_v2 (((cfg0.win 4).blk t).view.emb (ix2 0 n : S1x16.Idx)) = _
  rw [emb4, V_main_v2]; pointwise
theorem iblk5_at (c : Dev nD) (t : Fin cfg0.N) (p : Fin 2) (z : Fin 1) (r : Fin 128) (d : Fin 5120) :
    iblk m c 5 t (ix4 p z r d : S2x1x128x5120.Idx) = aP m c (ix4 p (bat (grid0.coords t)) (seqr (grid0.coords t) r) d) := by
  show V m c main_arg0 (((cfg0.win 5).blk t).view.emb (ix4 p z r d : S2x1x128x5120.Idx)) = _
  rw [emb5, V_main_arg0]
theorem iblk6_at (c : Dev nD) (t : Fin cfg0.N) (z : Fin 1) (r : Fin 128) (d : Fin 5120) :
    iblk m c 6 t (ix3 z r d : S1x128x5120.Idx) = aX m c (ix3 (bat (grid0.coords t)) (seqr (grid0.coords t) r) d) := by
  show V m c main_arg3 (((cfg0.win 6).blk t).view.emb (ix3 z r d : S1x128x5120.Idx)) = _
  rw [emb6, V_main_arg3]

/-! ## What a point computes, of the arrays -/

/-- The residual of the arguments. -/
abbrev aRes (c : Dev nD) := resS (aP m c) (aSC m c) (aBI m c) (aX m c)
/-- The normalised rows of the arguments. -/
abbrev aNrm (c : Dev nD) := nrmS (aP m c) (aSC m c) (aBI m c) (aX m c) (aGA m c)

/-- The residual a point computes is that of the arguments at its rows. -/
theorem resOf_eq (c : Dev nD) (t : Fin cfg0.N) (r : Fin 128) :
    resOf (grid0.coords t) (iblk m c 1 t) (iblk m c 2 t) (iblk m c 5 t) (iblk m c 6 t) r = aRes m c (bat (grid0.coords t)) (seqr (grid0.coords t) r) := by
  funext d
  unfold resOf res aRes resS scaleOf
  rw [iblk1_eq, iblk2_at, iblk5_at, iblk5_at, iblk6_at]

/-- The normalised rows a point computes are those of the arguments at its rows. -/
theorem nrmOf_eq (c : Dev nD) (t : Fin cfg0.N) (r : Fin 128) :
    nrmOf (grid0.coords t) (iblk m c 1 t) (iblk m c 2 t) (iblk m c 3 t) (iblk m c 5 t) (iblk m c 6 t) r = aNrm m c (bat (grid0.coords t)) (seqr (grid0.coords t) r) := by
  funext d
  show nrm (resOf (grid0.coords t) (iblk m c 1 t) (iblk m c 2 t) (iblk m c 5 t) (iblk m c 6 t) r) (iblk m c 3 t) d = _
  rw [resOf_eq]
  unfold nrm
  rw [iblk3_at]
  rfl

end Cert.KernelIdeal.Tile
-- ==== Proof.KI.Final.lean ====
/- The kernel's five result arrays after the run, over the extended reals, and its running maximum as the
   maximum over all rows and columns. -/
module

public import proofs.«01_k».proof.Proof.KI.Arrays

@[expose] public section
set_option maxRecDepth 16384
noncomputable section
namespace Cert.KernelIdeal.Tile
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Every place of the arrays belongs to one point's block -/

/-- The point whose rows hold row `s` of batch `b`. -/
def pt (b : Fin 16) (s : Fin 640) : Fin cfg0.N := ⟨5 * b.val + s.val / 128, Nat.lt_of_lt_of_eq (by omega) N_0.symm⟩
/-- The place of row `s` among its point's 128 rows. -/
def rowIn (s : Fin 640) : Fin 128 := ⟨s.val % 128, Nat.mod_lt _ (by decide)⟩

/-- That point has batch `b`, -/
theorem bat_pt (b : Fin 16) (s : Fin 640) : bat (grid0.coords (pt b s)) = b := by
  refine Fin.ext ((coords0 _).trans ?_)
  show (5 * b.val + s.val / 128) / 5 = b.val
  omega
/-- and holds row `s`. -/
theorem seqr_pt (b : Fin 16) (s : Fin 640) : seqr (grid0.coords (pt b s)) (rowIn s) = s := by
  refine Fin.ext ?_
  show 128 * (grid0.coords (pt b s) 1).val + s.val % 128 = s.val
  rw [coords1]
  show 128 * ((5 * b.val + s.val / 128) % 5) + s.val % 128 = s.val
  omega

/-! ## The residual and the codes -/

/-- The residual array. -/
def G7 (c : Dev nD) : Vec Ideal S16x640x5120 .bf16 := fun y => aRes m c (y 0) (y 1) (y 2)

/-- Every point writes its part of the residual array. -/
theorem flushed7 (c : Dev nD) (t : Fin cfg0.N) : (cfg0.win 7).cut (grid0.coords t) ((dats m 0 c).after 7 t) = ((cfg0.win 7).blk t).view.read (Elt Ideal) (G7 m c) := by
  rw [after0_7]
  funext j
  obtain ⟨z, r, d, rfl⟩ : ∃ z r d, j = (ix3 z r d : S1x128x5120.Idx) := ⟨j 0, j 1, j 2, eq_ix3 j⟩
  show resOf (grid0.coords t) (iblk m c 1 t) (iblk m c 2 t) (iblk m c 5 t) (iblk m c 6 t) r d = G7 m c (((cfg0.win 7).blk t).view.emb (ix3 z r d : S1x128x5120.Idx))
  rw [emb7, resOf_eq]
  rfl

/-- Every place of the residual array is written. -/
theorem covered7 (i : S16x640x5120.Idx) : ∃ t, (cfg0.win 7).flush t = true ∧ i ∈ ((cfg0.win 7).blk t).view.set := by
  obtain ⟨b, s, d, rfl⟩ : ∃ b s d, i = (ix3 b s d : S16x640x5120.Idx) := ⟨i 0, i 1, i 2, eq_ix3 i⟩
  refine ⟨pt b s, flush0_7 _, ?_⟩
  have h := ((cfg0.win 7).blk (pt b s)).view.emb_mem_set (ix3 0 (rowIn s) d : S1x128x5120.Idx)
  rwa [emb7, bat_pt, seqr_pt] at h

/-- The residual array after the run. -/
theorem final7 (c : Dev nD) : (dats m 0 c).arrAt 7 cfg0.N = G7 m c :=
  (dats m 0 c).arrAt_eq_of_cover 7 (G7 m c) (fun t _ => flushed7 m c t) covered7

/-- The inverse scale does not depend on the point. -/
theorem iblk4_eq (c : Dev nD) (t : Fin cfg0.N) : iblk m c 4 t = (fun y : S1x16.Idx => aHI m c (ix1 (y 1)) : Vec Ideal S1x16 .f32) := by
  funext j
  obtain ⟨z, n, rfl⟩ : ∃ z n, j = (ix2 z n : S1x16.Idx) := ⟨j 0, j 1, eq_ix2 j⟩
  obtain rfl : z = 0 := Subsingleton.elim _ _
  exact iblk4_at m c t n

/-- The history as one row. -/
abbrev hrow (c : Dev nD) : Vec Ideal S1x16 .f32 := fun y => aHI m c (ix1 (y 1))

/-- The array of codes. -/
def G10 (c : Dev nD) : Vec Ideal S16x640x5120 .fp8e4m3 := fun y => code (invOf (hrow m c)) (aNrm m c (y 0) (y 1) (y 2))

/-- Every point writes its part of the codes. -/
theorem flushed10 (c : Dev nD) (t : Fin cfg0.N) : (cfg0.win 10).cut (grid0.coords t) ((dats m 0 c).after 10 t) = ((cfg0.win 10).blk t).view.read (Elt Ideal) (G10 m c) := by
  rw [after0_10]
  funext j
  obtain ⟨z, r, d, rfl⟩ : ∃ z r d, j = (ix3 z r d : S1x128x5120.Idx) := ⟨j 0, j 1, j 2, eq_ix3 j⟩
  show code (invOf (iblk m c 4 t)) (nrmOf (grid0.coords t) (iblk m c 1 t) (iblk m c 2 t) (iblk m c 3 t) (iblk m c 5 t) (iblk m c 6 t) r d)
    = G10 m c (((cfg0.win 10).blk t).view.emb (ix3 z r d : S1x128x5120.Idx))
  rw [emb10, nrmOf_eq, iblk4_eq]
  rfl

/-- Every place of the codes is written. -/
theorem covered10 (i : S16x640x5120.Idx) : ∃ t, (cfg0.win 10).flush t = true ∧ i ∈ ((cfg0.win 10).blk t).view.set := by
  obtain ⟨b, s, d, rfl⟩ : ∃ b s d, i = (ix3 b s d : S16x640x5120.Idx) := ⟨i 0, i 1, i 2, eq_ix3 i⟩
  refine ⟨pt b s, flush0_10 _, ?_⟩
  have h := ((cfg0.win 10).blk (pt b s)).view.emb_mem_set (ix3 0 (rowIn s) d : S1x128x5120.Idx)
  rwa [emb10, bat_pt, seqr_pt] at h

/-- The codes after the run. -/
theorem final10 (c : Dev nD) : (dats m 0 c).arrAt 10 cfg0.N = G10 m c :=
  (dats m 0 c).arrAt_eq_of_cover 10 (G10 m c) (fun t _ => flushed10 m c t) covered10

/-! ## The words written at the last point -/

/-- The last point of the grid. -/
def lastPt : Fin cfg0.N := ⟨79, Nat.lt_of_lt_of_eq (by decide) N_0.symm⟩

/-- A point at whose end a one-block window is written is the last one. -/
theorem eq_last (t : Fin cfg0.N) (h : t.val % 80 = 79) : t = lastPt :=
  Fin.ext (by have := Nat.lt_of_lt_of_eq t.isLt N_0; show t.val = 79; omega)

/-- The maximum, -/
def G8 (c : Dev nD) : Vec Ideal S1 .f32 := fun _ => amaxAt m c 80
/-- the history moved on by it, -/
def G9 (c : Dev nD) : Vec Ideal S16 .f32 := shifted (aHI m c) (amaxAt m c 80)
/-- and the scale. -/
def G11 (c : Dev nD) : Vec Ideal S1 .f32 := fun _ => k0_pay278 (F := Ideal) (k0_pay280 (F := Ideal) (hrow m c))

/-- The last point writes the maximum. -/
theorem flushed8 (c : Dev nD) (t : Fin cfg0.N) (ht : (cfg0.win 8).flush t = true) :
    (cfg0.win 8).cut (grid0.coords t) ((dats m 0 c).after 8 t) = ((cfg0.win 8).blk t).view.read (Elt Ideal) (G8 m c) := by
  obtain rfl := eq_last t ((flush0_8 t).1 ht)
  rw [after0_8, show lastPt.val + 1 = 80 from rfl]
  unfold G8
  generalize amaxAt m c 80 = q
  rfl
/-- Its one word is written. -/
theorem covered8 (i : S1.Idx) : ∃ t, (cfg0.win 8).flush t = true ∧ i ∈ ((cfg0.win 8).blk t).view.set :=
  ⟨lastPt, (flush0_8 _).2 rfl, by have h := ((cfg0.win 8).blk lastPt).view.emb_mem_set i; rwa [emb8] at h⟩
/-- The maximum after the run. -/
theorem final8 (c : Dev nD) : (dats m 0 c).arrAt 8 cfg0.N = G8 m c :=
  (dats m 0 c).arrAt_eq_of_cover 8 (G8 m c) (fun t ht => flushed8 m c t ht) covered8

/-- The last point writes the history. -/
theorem flushed9 (c : Dev nD) (t : Fin cfg0.N) (ht : (cfg0.win 9).flush t = true) :
    (cfg0.win 9).cut (grid0.coords t) ((dats m 0 c).after 9 t) = ((cfg0.win 9).blk t).view.read (Elt Ideal) (G9 m c) := by
  obtain rfl := eq_last t ((flush0_9 t).1 ht)
  rw [after0_9, iblk0_eq]
  funext j
  show G9 m c j = G9 m c (((cfg0.win 9).blk lastPt).view.emb j)
  rw [emb9]
/-- All its words are written. -/
theorem covered9 (i : S16.Idx) : ∃ t, (cfg0.win 9).flush t = true ∧ i ∈ ((cfg0.win 9).blk t).view.set :=
  ⟨lastPt, (flush0_9 _).2 rfl, by have h := ((cfg0.win 9).blk lastPt).view.emb_mem_set i; rwa [emb9] at h⟩
/-- The history after the run. -/
theorem final9 (c : Dev nD) : (dats m 0 c).arrAt 9 cfg0.N = G9 m c :=
  (dats m 0 c).arrAt_eq_of_cover 9 (G9 m c) (fun t ht => flushed9 m c t ht) covered9

/-- The last point writes the scale. -/
theorem flushed11 (c : Dev nD) (t : Fin cfg0.N) (ht : (cfg0.win 11).flush t = true) :
    (cfg0.win 11).cut (grid0.coords t) ((dats m 0 c).after 11 t) = ((cfg0.win 11).blk t).view.read (Elt Ideal) (G11 m c) := by
  rw [after0_11, iblk4_eq]
  funext j
  show G11 m c j = G11 m c (((cfg0.win 11).blk t).view.emb j)
  rw [emb11]
/-- Its one word is written. -/
theorem covered11 (i : S1.Idx) : ∃ t, (cfg0.win 11).flush t = true ∧ i ∈ ((cfg0.win 11).blk t).view.set :=
  ⟨lastPt, (flush0_11 _).2 rfl, by have h := ((cfg0.win 11).blk lastPt).view.emb_mem_set i; rwa [emb11] at h⟩
/-- The scale after the run. -/
theorem final11 (c : Dev nD) : (dats m 0 c).arrAt 11 cfg0.N = G11 m c :=
  (dats m 0 c).arrAt_eq_of_cover 11 (G11 m c) (fun t ht => flushed11 m c t ht) covered11

/-! ## The running maximum -/

/-- A bound of the maximum after a point bounds the one before it and every magnitude of the point's rows. -/
theorem accOut_le (Y : Fin 128 → Fin 5120 → EReal) (a : FVec Ideal S32x128 .f32) (u : EReal) :
    (∀ y, (accOut Y a y : EReal) ≤ u) ↔ (∀ y, (a y : EReal) ≤ u) ∧ ∀ r d, mag (Y r d) ≤ u := by
  have htr : k0_t1_loop.trips = 4 := by decide
  constructor
  · intro h
    refine ⟨fun y => (le_max_left _ _).trans (h y), fun r d => ?_⟩
    have hr : r.val / 32 < k0_t1_loop.trips := by omega
    have hd : d.val / 128 < 40 := by omega
    have H := (max_le_iff.1 (h (ix2 ⟨r.val % 32, Nat.mod_lt _ (by decide)⟩ ⟨d.val % 128, Nat.mod_lt _ (by decide)⟩))).2
    have H' := Finset.sup_le_iff.1 H (⟨r.val / 32, hr⟩, ⟨d.val / 128, hd⟩) (Finset.mem_univ _)
    have er : trow ⟨r.val / 32, hr⟩ ⟨r.val % 32, Nat.mod_lt _ (by decide)⟩ = r := Fin.ext (by show 32 * (r.val / 32) + r.val % 32 = r.val; omega)
    have ed : col ⟨d.val / 128, hd⟩ ⟨d.val % 128, Nat.mod_lt _ (by decide)⟩ = d := Fin.ext (by show 128 * (d.val / 128) + d.val % 128 = d.val; omega)
    have H'' : mag (Y (trow ⟨r.val / 32, hr⟩ ⟨r.val % 32, Nat.mod_lt _ (by decide)⟩) (col ⟨d.val / 128, hd⟩ ⟨d.val % 128, Nat.mod_lt _ (by decide)⟩)) ≤ u := H'
    rwa [er, ed] at H''
  · rintro ⟨ha, hY⟩ y
    exact max_le (ha y) (Finset.sup_le fun p _ => hY _ _)

/-- A bound of the running maximum before point `n` bounds zero and every magnitude of the earlier points' rows. -/
theorem acc_le (c : Dev nD) (u : EReal) (n : ℕ) (hn : n ≤ cfg0.N) :
    (∀ y, (acc m c n y : EReal) ≤ u) ↔ 0 ≤ u ∧ ∀ t : Fin cfg0.N, t.val < n → ∀ r d, mag (aNrm m c (bat (grid0.coords t)) (seqr (grid0.coords t) r) d) ≤ u := by
  induction n with
  | zero =>
    refine ⟨fun h => ⟨?_, fun t ht => absurd ht (Nat.not_lt_zero _)⟩, fun h y => ?_⟩
    · have := h (ix2 0 0)
      rwa [acc, zero_apply] at this
    · rw [acc, zero_apply]; exact h.1
  | succ n ih =>
    have ht : n < cfg0.N := hn
    have e : acc m c (n + 1) = accStep m c ⟨n, ht⟩ (acc m c n) := acc_succ m c ⟨n, ht⟩
    have ei : (if firstPoint (grid0.coords (⟨n, ht⟩ : Fin cfg0.N)) then k0_pay279 (F := Ideal) else acc m c n) = acc m c n := by
      split_ifs with hf
      · have : n % 80 = 0 := (hcond0_0 ⟨n, ht⟩).1 hf
        have h80 : n < 80 := Nat.lt_of_lt_of_eq ht N_0
        obtain rfl : n = 0 := by omega
        rfl
      · rfl
    rw [e]
    unfold accStep out15
    rw [ei, accOut_le, ih (Nat.le_of_succ_le hn), and_assoc]
    refine and_congr_right fun _ => ⟨fun h t htn r d => ?_, fun h => ⟨fun t htn => h t (Nat.lt_succ_of_lt htn), fun r d => ?_⟩⟩
    · rcases Nat.lt_succ_iff_lt_or_eq.1 htn with h' | h'
      · exact h.1 t h' r d
      · obtain rfl : t = ⟨n, ht⟩ := Fin.ext h'
        have := h.2 r d
        rwa [nrmOf_eq] at this
    · rw [nrmOf_eq]
      exact h ⟨n, ht⟩ (Nat.lt_succ_self n) r d

/-- A magnitude is not negative. -/
theorem mag_nonneg (y : EReal) : 0 ≤ mag y := by
  rcases le_total 0 y with h | h
  · exact h.trans (le_max_left _ _)
  · exact (EReal.neg_nonneg.2 h).trans (le_max_right _ _)

/-- The word returned is the largest lane of the running maximum. -/
theorem amax_fold (v : Vec Ideal S32x128 .f32) (u : EReal) : (k0_pay277 (F := Ideal) v : EReal) ≤ u ↔ ∀ y, (v y : EReal) ≤ u := by
  have e : (k0_pay277 (F := Ideal) v : EReal) = Finset.fold max (Ideal.ofBits .f32 4286578688#32) (fun x : Fin 32 × Fin 128 => v (ix2 x.1 x.2)) Finset.univ := by
    pointwise [k0_pay277]
  have eb : Ideal.ofBits .f32 4286578688#32 = ⊥ := by simp [Ideal.ofBits, Ideal.ieee, -EReal.coe_mul]
  rw [e, Finset.fold_max_le, eb]
  refine ⟨fun h y => ?_, fun h => ⟨bot_le, fun x _ => h _⟩⟩
  have := h.2 (y 0, y 1) (Finset.mem_univ _)
  rwa [show (ix2 (y 0) (y 1) : S32x128.Idx) = y from (eq_ix2 y).symm] at this

/-- The maximum the kernel returns is the maximum over every row and column. -/
theorem amaxAt_le (c : Dev nD) (u : EReal) : amaxAt m c 80 ≤ u ↔ ∀ b s d, mag (aNrm m c b s d) ≤ u := by
  refine (amax_fold _ u).trans ((acc_le m c u 80 (Nat.le_of_eq N_0.symm)).trans ⟨fun h b s d => ?_, fun h => ⟨(mag_nonneg _).trans (h 0 0 0), fun t _ r d => h _ _ _⟩⟩)
  have := h.2 (pt b s) (Nat.lt_of_lt_of_eq (pt b s).isLt N_0) (rowIn s) d
  rwa [bat_pt, seqr_pt] at this

end Cert.KernelIdeal.Tile
-- ==== Proof.RefValue.lean ====
/- The reference program's run, read: each of its five result arrays is a payload of the argument
   arrays. The reference has one grid point, every window of it is a whole array. -/
module

public import proofs.«01_k».proof.Proof.Gen.ReferenceIdeal.Frame
public import Idealize.ShloMosaic.Lib.Pipeline.Value

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16x640x5120.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16x640x5120.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S1.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_4) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v0_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0, 0, 0] : Fin 4 → Nat) = fun _ => 0 := funext fun a => by fin_cases a <;> rfl

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S2x16x640x5120.Idx) : ((cfg0.win 0).blk t).view.emb j = j := by
  obtain ⟨e0, e1, e2, e3⟩ := idx_zero0 t
  funext a; apply Fin.ext
  match a with
  | ⟨0, _⟩ => show win0_0.index t (0 : Fin 4) * 2 + 1 * (j 0).val = (j 0).val; omega
  | ⟨1, _⟩ => show win0_0.index t (1 : Fin 4) * 16 + 1 * (j 1).val = (j 1).val; omega
  | ⟨2, _⟩ => show win0_0.index t (2 : Fin 4) * 640 + 1 * (j 2).val = (j 2).val; omega
  | ⟨3, _⟩ => show win0_0.index t (3 : Fin 4) * 5120 + 1 * (j 3).val = (j 3).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x16x640.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 16 + 1 * (j 1).val = (j 1).val; omega
  | ⟨2, _⟩ => show win0_1.index t (2 : Fin 3) * 640 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S5120.Idx) : ((cfg0.win 2).blk t).view.emb j = j := by
  have e0 := idx_zero2 t
  funext a; apply Fin.ext
  match a with
  | ⟨0, _⟩ => show win0_2.index t (0 : Fin 1) * 5120 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S16x640x5120.Idx) : ((cfg0.win 3).blk t).view.emb j = j := by
  obtain ⟨e0, e1, e2⟩ := idx_zero3 t
  funext a; apply Fin.ext
  match a with
  | ⟨0, _⟩ => show win0_3.index t (0 : Fin 3) * 16 + 1 * (j 0).val = (j 0).val; omega
  | ⟨1, _⟩ => show win0_3.index t (1 : Fin 3) * 640 + 1 * (j 1).val = (j 1).val; omega
  | ⟨2, _⟩ => show win0_3.index t (2 : Fin 3) * 5120 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S5120.Idx) : ((cfg0.win 4).blk t).view.emb j = j := by
  have e0 := idx_zero4 t
  funext a; apply Fin.ext
  match a with
  | ⟨0, _⟩ => show win0_4.index t (0 : Fin 1) * 5120 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S16.Idx) : ((cfg0.win 5).blk t).view.emb j = j := by
  have e0 := idx_zero5 t
  funext a; apply Fin.ext
  match a with
  | ⟨0, _⟩ => show win0_5.index t (0 : Fin 1) * 16 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S16x640x5120.Idx) : ((cfg0.win 6).blk t).view.emb j = j := by
  obtain ⟨e0, e1, e2⟩ := idx_zero6 t
  funext a; apply Fin.ext
  match a with
  | ⟨0, _⟩ => show win0_6.index t (0 : Fin 3) * 16 + 1 * (j 0).val = (j 0).val; omega
  | ⟨1, _⟩ => show win0_6.index t (1 : Fin 3) * 640 + 1 * (j 1).val = (j 1).val; omega
  | ⟨2, _⟩ => show win0_6.index t (2 : Fin 3) * 5120 + 1 * (j 2).val = (j 2).val; omega

theorem hz7 : (![0] : Fin 1 → Nat) = fun _ => 0 := funext fun a => by fin_cases a <;> rfl

/-- Window 7's block index at the one point is zero on every axis. -/
theorem idx_zero7 : ∀ t : Fin cfg0.N, win0_7.index t (0 : Fin 1) = 0 :=
  (by decide +kernel : ∀ t : Fin grid0.N, _)

/-- An index of window 7's block is the same index of its array. -/
theorem emb7 (t : Fin cfg0.N) (j : S1.Idx) : ((cfg0.win 7).blk t).view.emb j = j := by
  have e0 := idx_zero7 t
  funext a; apply Fin.ext
  match a with
  | ⟨0, _⟩ => show win0_7.index t (0 : Fin 1) * 1 + 1 * (j 0).val = (j 0).val; omega

theorem hz8 : (![0] : Fin 1 → Nat) = fun _ => 0 := funext fun a => by fin_cases a <;> rfl

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S16.Idx) : ((cfg0.win 8).blk t).view.emb j = j := by
  have e0 := idx_zero8 t
  funext a; apply Fin.ext
  match a with
  | ⟨0, _⟩ => show win0_8.index t (0 : Fin 1) * 16 + 1 * (j 0).val = (j 0).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S16x640x5120.Idx) : ((cfg0.win 9).blk t).view.emb j = j := by
  obtain ⟨e0, e1, e2⟩ := idx_zero9 t
  funext a; apply Fin.ext
  match a with
  | ⟨0, _⟩ => show win0_9.index t (0 : Fin 3) * 16 + 1 * (j 0).val = (j 0).val; omega
  | ⟨1, _⟩ => show win0_9.index t (1 : Fin 3) * 640 + 1 * (j 1).val = (j 1).val; omega
  | ⟨2, _⟩ => show win0_9.index t (2 : Fin 3) * 5120 + 1 * (j 2).val = (j 2).val; omega

theorem hz10 : (![0] : Fin 1 → Nat) = fun _ => 0 := funext fun a => by fin_cases a <;> rfl

/-- Window 10's block index at the one point is zero on every axis. -/
theorem idx_zero10 : ∀ t : Fin cfg0.N, win0_10.index t (0 : Fin 1) = 0 :=
  (by decide +kernel : ∀ t : Fin grid0.N, _)

/-- An index of window 10's block is the same index of its array. -/
theorem emb10 (t : Fin cfg0.N) (j : S1.Idx) : ((cfg0.win 10).blk t).view.emb j = j := by
  have e0 := idx_zero10 t
  funext a; apply Fin.ext
  match a with
  | ⟨0, _⟩ => show win0_10.index t (0 : Fin 1) * 1 + 1 * (j 0).val = (j 0).val; omega

/-! ### Output window 6: the array after the run -/

/-- What the window's array ends holding: `out0_6` applied to the argument arrays in place of the input blocks (a value that the
    frame states apart, `kK_payN a…`, keeps its loads inside its own definition). -/
abbrev G6 (a0 : Vec F S2x16x640x5120 .fp8e4m3) (a1 : Vec F S2x16x640 .f32) (a2 : Vec F S5120 .f32) (a3 : Vec F S16x640x5120 .bf16) (a4 : Vec F S5120 .f32) (a5 : Vec F S16 .f32) : Vec F S16x640x5120 .bf16 :=
  k0_pay2 a0 a1 a2 a3

/-- A load of the whole of a block reads the block, and the one store through the whole rectangle leaves its payload. -/
theorem out6_eq (a0 : Vec F S2x16x640x5120 .fp8e4m3) (a1 : Vec F S2x16x640 .f32) (a2 : Vec F S5120 .f32) (a3 : Vec F S16x640x5120 .bf16) (a4 : Vec F S5120 .f32) (a5 : Vec F S16 .f32) : out0_6 (F := F) a0 a1 a2 a3 a4 a5 = G6 a0 a1 a2 a3 a4 a5 := by
  unfold out0_6
  rw [View.canon_unit_zero hz6, View.ld_unit_zero (S := S2x16x640x5120) hz0 _ a0, View.ld_unit_zero (S := S2x16x640) hz1 _ a1, View.ld_unit_zero (S := S5120) hz2 _ a2, View.ld_unit_zero (S := S16x640x5120) hz3 _ a3]

/-- Cutting the point's block out of `X` and reading `X` through the block's view give the same. -/
theorem cut6_eq (t : Fin cfg0.N) (X : Vec F S16x640x5120 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S16x640x5120.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S2x16x640x5120 .fp8e4m3) (a1 : Vec F S2x16x640 .f32) (a2 : Vec F S5120 .f32) (a3 : Vec F S16x640x5120 .bf16) (a4 : Vec F S5120 .f32) (a5 : Vec F S16 .f32) : Vec F S1 .f32 :=
  k0_pay9 a0 a1 a2 a3 a4 a5

/-- The one store through the whole rectangle leaves its payload. -/
theorem out7_eq (a0 : Vec F S2x16x640x5120 .fp8e4m3) (a1 : Vec F S2x16x640 .f32) (a2 : Vec F S5120 .f32) (a3 : Vec F S16x640x5120 .bf16) (a4 : Vec F S5120 .f32) (a5 : Vec F S16 .f32) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S1 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S1.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S2x16x640x5120 .fp8e4m3) (a1 : Vec F S2x16x640 .f32) (a2 : Vec F S5120 .f32) (a3 : Vec F S16x640x5120 .bf16) (a4 : Vec F S5120 .f32) (a5 : Vec F S16 .f32) : Vec F S16 .f32 :=
  k0_pay5 (k0_pay9 a0 a1 a2 a3 a4 a5) (View.ld a5 r0_5)

/-- The one store through the whole rectangle leaves its payload. -/
theorem out8_eq (a0 : Vec F S2x16x640x5120 .fp8e4m3) (a1 : Vec F S2x16x640 .f32) (a2 : Vec F S5120 .f32) (a3 : Vec F S16x640x5120 .bf16) (a4 : Vec F S5120 .f32) (a5 : Vec F S16 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S16 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S16.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S2x16x640x5120 .fp8e4m3) (a1 : Vec F S2x16x640 .f32) (a2 : Vec F S5120 .f32) (a3 : Vec F S16x640x5120 .bf16) (a4 : Vec F S5120 .f32) (a5 : Vec F S16 .f32) : Vec F S16x640x5120 .fp8e4m3 :=
  k0_pay1 (k0_pay8 (k0_pay3 a0 a1 a2 a3 a4) a5)

/-- A load of the whole of a block reads the block, and the one store through the whole rectangle leaves its payload. -/
theorem out9_eq (a0 : Vec F S2x16x640x5120 .fp8e4m3) (a1 : Vec F S2x16x640 .f32) (a2 : Vec F S5120 .f32) (a3 : Vec F S16x640x5120 .bf16) (a4 : Vec F S5120 .f32) (a5 : Vec F S16 .f32) : out0_9 (F := F) a0 a1 a2 a3 a4 a5 = G9 a0 a1 a2 a3 a4 a5 := by
  unfold out0_9
  rw [View.canon_unit_zero hz9, View.ld_unit_zero (S := S2x16x640x5120) hz0 _ a0, View.ld_unit_zero (S := S2x16x640) hz1 _ a1, View.ld_unit_zero (S := S5120) hz2 _ a2, View.ld_unit_zero (S := S16x640x5120) hz3 _ a3, View.ld_unit_zero (S := S5120) hz4 _ a4, View.ld_unit_zero (S := S16) hz5 _ a5]

/-- Cutting the point's block out of `X` and reading `X` through the block's view give the same. -/
theorem cut9_eq (t : Fin cfg0.N) (X : Vec F S16x640x5120 .fp8e4m3) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S16x640x5120.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ### Output window 10: the array after the run -/

/-- What the window's array ends holding: `out0_10` applied to the argument arrays in place of the input blocks (a value that the
    frame states apart, `kK_payN a…`, keeps its loads inside its own definition). -/
abbrev G10 (a0 : Vec F S2x16x640x5120 .fp8e4m3) (a1 : Vec F S2x16x640 .f32) (a2 : Vec F S5120 .f32) (a3 : Vec F S16x640x5120 .bf16) (a4 : Vec F S5120 .f32) (a5 : Vec F S16 .f32) : Vec F S1 .f32 :=
  k0_pay7 a5

/-- A load of the whole of a block reads the block, and the one store through the whole rectangle leaves its payload. -/
theorem out10_eq (a0 : Vec F S2x16x640x5120 .fp8e4m3) (a1 : Vec F S2x16x640 .f32) (a2 : Vec F S5120 .f32) (a3 : Vec F S16x640x5120 .bf16) (a4 : Vec F S5120 .f32) (a5 : Vec F S16 .f32) : out0_10 (F := F) a0 a1 a2 a3 a4 a5 = G10 a0 a1 a2 a3 a4 a5 := by
  unfold out0_10
  rw [View.canon_unit_zero hz10, View.ld_unit_zero (S := S16) hz5 _ a5]

/-- Cutting the point's block out of `X` and reading `X` through the block's view give the same. -/
theorem cut10_eq (t : Fin cfg0.N) (X : Vec F S1 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5)) := by
  show (cfg0.win 10).cut (grid0.coords t) ((dats m 0 c).after 10 t) = _
  rw [after0_10, out10_eq, iblk0_eq, iblk1_eq, iblk2_eq, iblk3_eq, iblk4_eq, iblk5_eq]
  exact cut10_eq t _

/-- Every index of the array is in the point's block. -/
theorem covered10 (i : S1.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 10 (G10 (V m c main_arg0) (V m c main_arg1) (V m c main_arg2) (V m c main_arg3) (V m c main_arg4) (V m c main_arg5)) (fun t _ => flushed10_eq m c t) covered10).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      (post10 m r h c).trans (final10 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Val

end
-- ==== Proof.Exp.lean ====
/- The exponent of a positive real, counted two ways: by the kernel's table of the words whose only
   set field is the exponent, and by the reference's table of powers of two. -/
module

public import Idealize.ShloMosaic.Lib.Pointwise
public import Idealize.ShloMosaic.PureOps.Ideal.Laws

@[expose] public section
set_option maxRecDepth 16384
noncomputable section
namespace Cert.Exponent
open Idealize.ShloMosaic

/-- The power of two as an extended real. -/
def pw (k : ℤ) : EReal := (((2 : ℝ) ^ k : ℝ) : EReal)

theorem fields : ∀ n : Fin 256,
    ((IntOp.shli ArithUnit.vector (BitVec.ofNat 32 n.val) 23#32).extractLsb' 31 1 == 1#1) = false
    ∧ ((IntOp.shli ArithUnit.vector (BitVec.ofNat 32 n.val) 23#32).extractLsb' 23 8).toNat = n.val
    ∧ ((IntOp.shli ArithUnit.vector (BitVec.ofNat 32 n.val) 23#32).extractLsb' 0 23).toNat = 0 := by
  decide +kernel

/-- The word of exponent field `n` and no fraction is a power of two, -/
theorem word_pow (n : Fin 256) (h0 : n.val ≠ 0) (h1 : n.val ≠ 255) :
    Ideal.ofBits .f32 (IntOp.shli ArithUnit.vector (BitVec.ofNat 32 n.val) 23#32) = pw ((n.val : ℤ) - 127) := by
  obtain ⟨e1, e2, e3⟩ := fields n
  show Ideal.ieee 8 23 (IntOp.shli ArithUnit.vector (BitVec.ofNat 32 n.val) 23#32) = _
  unfold Ideal.ieee
  simp only [e1, e2, e3]
  rw [if_neg (by omega), if_neg h0]
  show (((if (false : Bool) = true then (-1 : ℝ) else 1) * ((2 ^ 23 + 0 : ℕ) : ℝ) * (2 : ℝ) ^ ((n.val : ℤ) - (2 ^ (8 - 1) - 1) - ((23 : ℕ) : ℤ)) : ℝ) : EReal) = _
  refine congrArg Real.toEReal ?_
  have : ((n.val : ℤ) - 127) = 23 + ((n.val : ℤ) - (2 ^ (8 - 1) - 1) - ((23 : ℕ) : ℤ)) := by norm_num
  rw [this, zpow_add₀ (by norm_num)]
  norm_num

/-- and of the full field, infinity. -/
theorem word_top : Ideal.ofBits .f32 (IntOp.shli ArithUnit.vector (BitVec.ofNat 32 255) 23#32) = (⊤ : EReal) := by
  obtain ⟨e1, e2, e3⟩ := fields 255
  show Ideal.ieee 8 23 (IntOp.shli ArithUnit.vector (BitVec.ofNat 32 (255 : Fin 256).val) 23#32) = _
  unfold Ideal.ieee
  simp only [e1, e2, e3]
  norm_num

theorem exp2_int (k : ℤ) : Ideal.exp2 (((k : ℝ)) : EReal) = pw k := by
  rw [Ideal.exp2_coe]
  unfold pw
  refine congrArg Real.toEReal ?_
  exact Real.rpow_intCast 2 k

open Classical in
/-- The exponent of the largest power of two that is at most `r`. -/
def lg (r : ℝ) : ℤ := if h : 0 < r then (exists_mem_Ico_zpow h (by norm_num : (1 : ℝ) < 2)).choose else 0

theorem le_iff {r : ℝ} (h : 0 < r) (k : ℤ) : (2 : ℝ) ^ k ≤ r ↔ k ≤ lg r := by
  have e := (exists_mem_Ico_zpow h (by norm_num : (1 : ℝ) < 2)).choose_spec
  unfold lg
  rw [dif_pos h]
  generalize (exists_mem_Ico_zpow h (by norm_num : (1 : ℝ) < 2)).choose = n at e
  refine ⟨fun hk => ?_, fun hk => le_trans (zpow_le_zpow_right₀ (by norm_num) hk) e.1⟩
  have := lt_of_le_of_lt hk e.2
  have := (zpow_lt_zpow_iff_right₀ (by norm_num : (1 : ℝ) < 2)).1 this
  omega

/-- The exponent of `r` as `frexp` has it, and zero below the smallest normal number. -/
def expo (r : ℝ) : ℤ := if r < (2 : ℝ) ^ (-126 : ℤ) then 0 else lg r + 1

theorem log_bounds {r : ℝ} (h : (2 : ℝ) ^ (-126 : ℤ) ≤ r) (hr : r < (2 : ℝ) ^ (120 : ℤ)) :
    -126 ≤ lg r ∧ lg r < 120 := by
  have h0 : 0 < r := lt_of_lt_of_le (by positivity) h
  refine ⟨(le_iff h0 _).1 h, ?_⟩
  by_contra hc
  exact absurd ((le_iff h0 120).2 (not_lt.1 hc)) (not_le.2 hr)

theorem expo_bounds {r : ℝ} (hr : r < (2 : ℝ) ^ (120 : ℤ)) : -125 ≤ expo r ∧ expo r ≤ 120 := by
  unfold expo
  split_ifs with h
  · omega
  · obtain ⟨a, b⟩ := log_bounds (not_lt.1 h) hr
    omega

/-- Counting with words: the sum of ones over the members that satisfy a condition. -/
theorem fold_count {ι : Type*} [DecidableEq ι] (p : ι → Prop) [DecidablePred p] (f : ι → BitVec 32) (hf : ∀ i, f i = if p i then 1#32 else 0#32) (s : Finset ι) :
    s.fold IntOp.addi (0#32) f = BitVec.ofNat 32 (s.filter p).card := by
  induction s using Finset.induction_on with
  | empty => simp
  | insert a s ha ih =>
    rw [Finset.fold_insert ha, ih, hf, Finset.filter_insert]
    by_cases h : p a
    · rw [if_pos h, if_pos h, Finset.card_insert_of_notMem (by simp [ha]), Nat.add_comm]
      show 1#32 + _ = _
      rw [BitVec.ofNat_add]
    · rw [if_neg h, if_neg h]
      show 0#32 + _ = _
      simp

/-- The signed maximum of words, read as integers. -/
theorem fold_maxsi {ι : Type*} [DecidableEq ι] (f : ι → BitVec 32) (b : BitVec 32) (s : Finset ι) :
    (s.fold IntOp.maxsi b f).toInt = s.fold max b.toInt fun i => (f i).toInt := by
  induction s using Finset.induction_on with
  | empty => simp
  | insert a s ha ih =>
    rw [Finset.fold_insert ha, Finset.fold_insert ha, ← ih]
    unfold IntOp.maxsi
    split_ifs with h
    · rw [BitVec.slt_iff_toInt_lt] at h
      exact (max_eq_left h.le).symm
    · rw [BitVec.slt_iff_toInt_lt] at h
      exact (max_eq_right (not_lt.1 h)).symm

/-- One test of the kernel's table: the field is not zero and its word is at most `r`. -/
def counted (r : ℝ) (x : Fin 256) : Prop := x.val ≠ 0 ∧ x.val ≠ 255 ∧ (2 : ℝ) ^ ((x.val : ℤ) - 127) ≤ r

open Classical in
theorem card_counted {r : ℝ} (hr : r < (2 : ℝ) ^ (120 : ℤ)) :
    (Finset.univ.filter (counted r)).card = if r < (2 : ℝ) ^ (-126 : ℤ) then 0 else (lg r + 127).toNat := by
  split_ifs with h
  · rw [Finset.card_eq_zero, Finset.filter_eq_empty_iff]
    rintro x - ⟨h0, -, hx⟩
    have : (2 : ℝ) ^ (-126 : ℤ) ≤ (2 : ℝ) ^ ((x.val : ℤ) - 127) := zpow_le_zpow_right₀ (by norm_num) (by omega)
    linarith
  · obtain ⟨ha, hb⟩ := log_bounds (not_lt.1 h) hr
    have h0 : 0 < r := lt_of_lt_of_le (by positivity) (not_lt.1 h)
    have e : Finset.univ.filter (counted r) = Finset.Ioc (0 : Fin 256) ⟨(lg r + 127).toNat, by omega⟩ := by
      ext x
      simp only [Finset.mem_filter, Finset.mem_univ, true_and, Finset.mem_Ioc, counted, le_iff h0, Fin.lt_def, Fin.le_def]
      have := x.isLt
      show _ ↔ 0 < x.val ∧ _
      omega
    rw [e, Fin.card_Ioc]
    simp

/-- The reference's table: the largest exponent of a power of two at most `r`, plus one. -/
def entry (r : ℝ) (x : Fin 254) : ℤ := open Classical in if (2 : ℝ) ^ ((x.val : ℤ) - 126) ≤ r then (x.val : ℤ) - 125 else -126

theorem fold_entry {r : ℝ} (h : (2 : ℝ) ^ (-126 : ℤ) ≤ r) (hr : r < (2 : ℝ) ^ (120 : ℤ)) :
    Finset.univ.fold max (-2147483648 : ℤ) (entry r) = lg r + 1 := by
  obtain ⟨ha, hb⟩ := log_bounds h hr
  have h0 : 0 < r := lt_of_lt_of_le (by positivity) h
  refine le_antisymm (Finset.fold_max_le _ |>.2 ⟨by omega, fun x _ => ?_⟩) ((Finset.le_fold_max _).2 (.inr ⟨⟨(lg r + 126).toNat, by omega⟩, Finset.mem_univ _, ?_⟩))
  · unfold entry
    split_ifs with hx
    · have := (le_iff h0 _).1 hx
      omega
    · omega
  · unfold entry
    rw [if_pos ((le_iff h0 _).2 (by show (((lg r + 126).toNat : ℕ) : ℤ) - 126 ≤ _; omega))]
    show _ ≤ (((lg r + 126).toNat : ℕ) : ℤ) - 125
    omega

/-! ### The two scale words -/

theorem field_up : ∀ k : Fin 247, IntOp.minsi (255#32) (IntOp.maxsi (0#32) (IntOp.addi (BitVec.ofInt 32 ((k.val : ℤ) - 125)) 127#32)) = BitVec.ofNat 32 (k.val + 2) := by
  decide +kernel

theorem field_down : ∀ k : Fin 247, IntOp.minsi (255#32) (IntOp.maxsi (0#32) (IntOp.addi (IntOp.subi (0#32) (BitVec.ofInt 32 ((k.val : ℤ) - 125))) 127#32)) = BitVec.ofNat 32 (252 - k.val) := by
  decide +kernel

theorem toInt_up : ∀ k : Fin 247, (BitVec.ofInt 32 ((k.val : ℤ) - 125)).toInt = (k.val : ℤ) - 125 := by
  decide +kernel

theorem toInt_down : ∀ k : Fin 247, (IntOp.subi (0#32) (BitVec.ofInt 32 ((k.val : ℤ) - 125))).toInt = -((k.val : ℤ) - 125) := by
  decide +kernel

/-- The kernel's word for two to the exponent is that power, as is the reference's. -/
theorem scale_word {e : ℤ} (h : -125 ≤ e ∧ e ≤ 120) :
    Ideal.ofBits .f32 (IntOp.shli ArithUnit.vector (IntOp.minsi (255#32) (IntOp.maxsi (0#32) (IntOp.addi (BitVec.ofInt 32 e) 127#32))) 23#32)
      = Ideal.exp2 (((BitVec.ofInt 32 e).toInt : ℝ) : EReal) := by
  obtain ⟨k, rfl⟩ : ∃ k : Fin 247, e = (k.val : ℤ) - 125 := ⟨⟨(e + 125).toNat, by omega⟩, by show e = (((e + 125).toNat : ℕ) : ℤ) - 125; omega⟩
  have hk := k.isLt
  rw [field_up, toInt_up, exp2_int]
  refine (word_pow ⟨k.val + 2, by omega⟩ (by show k.val + 2 ≠ 0; omega) (by show k.val + 2 ≠ 255; omega)).trans (congrArg pw ?_)
  show ((k.val + 2 : ℕ) : ℤ) - 127 = _
  push_cast; ring

/-- The same for the negated exponent. -/
theorem inv_word {e : ℤ} (h : -125 ≤ e ∧ e ≤ 120) :
    Ideal.ofBits .f32 (IntOp.shli ArithUnit.vector (IntOp.minsi (255#32) (IntOp.maxsi (0#32) (IntOp.addi (IntOp.subi (0#32) (BitVec.ofInt 32 e)) 127#32))) 23#32)
      = Ideal.exp2 (((IntOp.subi (0#32) (BitVec.ofInt 32 e)).toInt : ℝ) : EReal) := by
  obtain ⟨k, rfl⟩ : ∃ k : Fin 247, e = (k.val : ℤ) - 125 := ⟨⟨(e + 125).toNat, by omega⟩, by show e = (((e + 125).toNat : ℕ) : ℤ) - 125; omega⟩
  have hk := k.isLt
  rw [field_down, toInt_down, exp2_int]
  refine (word_pow ⟨252 - k.val, by omega⟩ (by show 252 - k.val ≠ 0; omega) (by show 252 - k.val ≠ 255; omega)).trans (congrArg pw ?_)
  show ((252 - k.val : ℕ) : ℤ) - 127 = _
  omega

end Cert.Exponent
-- ==== Proof.Scale.lean ====
/- The delayed scale: the kernel's exponent of the history, its scale and inverse scale are the reference's,
   when every entry of the history is finite. -/
module

public import proofs.«01_k».proof.Proof.Exp
public import proofs.«01_k».proof.Proof.Gen.ReferenceIdeal.Skeleton
public import proofs.«01_k».proof.Proof.Gen.KernelIdeal.Skeleton

@[expose] public section
set_option maxRecDepth 16384
noncomputable section
namespace Cert.Exponent
open Idealize.ShloMosaic Idealize.ShloMosaic.TcCoe

/-- The quotient the exponent is taken of: the history's largest entry over 448. -/
def quot (h : Fin 16 → EReal) : EReal := Finset.univ.fold max (Ideal.ofBits .f32 0xFF800000#32) h * Ideal.ofBits .f32 0x3B124925#32

/-- The size of the quotient. -/
abbrev size (h : Fin 16 → EReal) : EReal := max (quot h) (-quot h)

/-- The starting word of a maximum is minus infinity. -/
theorem neg_inf : Ideal.ofBits .f32 0xFF800000#32 = (⊥ : EReal) := by
  simp [Ideal.ofBits, Ideal.ieee, -EReal.coe_mul]

/-- The largest finite float32 number. -/
theorem flt_max : Ideal.ofBits .f32 0x7F7FFFFF#32 = (((2 ^ 24 - 1) * (2 : ℝ) ^ (104 : ℤ) : ℝ) : EReal) := by
  simp [Ideal.ofBits, Ideal.ieee, -EReal.coe_mul]; norm_num

/-- The float32 number nearest 1/448. -/
theorem over_448 : Ideal.ofBits .f32 0x3B124925#32 = ((9586981 * (2 : ℝ) ^ (-32 : ℤ) : ℝ) : EReal) := by
  simp [Ideal.ofBits, Ideal.ieee, -EReal.coe_mul]

/-- The least normal float32 number. -/
theorem least_normal : Ideal.ofBits .f32 0x00800000#32 = (((2 : ℝ) ^ (-126 : ℤ) : ℝ) : EReal) := by
  simp [Ideal.ofBits, Ideal.ieee, -EReal.coe_mul]; norm_num

/-- A finite history has a finite quotient, well inside the exponents of the format. -/
theorem size_real {h : Fin 16 → EReal} (hf : ∀ n, max (h n) (-h n) ≤ Ideal.ofBits .f32 0x7F7FFFFF#32) :
    ∃ r : ℝ, size h = (r : EReal) ∧ r < (2 : ℝ) ^ (120 : ℤ) := by
  rw [flt_max] at hf
  set B : ℝ := (2 ^ 24 - 1) * (2 : ℝ) ^ (104 : ℤ) with hB
  have hup : Finset.univ.fold max (⊥ : EReal) h ≤ (B : EReal) := (Finset.fold_max_le _).2 ⟨bot_le, fun n _ => le_trans (le_max_left _ _) (hf n)⟩
  have hlo : ((-B : ℝ) : EReal) ≤ Finset.univ.fold max (⊥ : EReal) h :=
    (Finset.le_fold_max _).2 (.inr ⟨0, Finset.mem_univ _, by
      have := le_trans (le_max_right _ _) (hf 0)
      rw [EReal.coe_neg]
      exact EReal.neg_le.1 this⟩)
  obtain ⟨M, hM⟩ : ∃ M : ℝ, Finset.univ.fold max (⊥ : EReal) h = (M : EReal) := by
    induction hx : Finset.univ.fold max (⊥ : EReal) h with
    | bot => rw [hx] at hlo; exact absurd (le_bot_iff.1 hlo) (EReal.coe_ne_bot _)
    | top => rw [hx] at hup; exact absurd (top_le_iff.1 hup) (EReal.coe_ne_top _)
    | coe M => exact ⟨M, rfl⟩
  rw [hM, EReal.coe_le_coe_iff] at hup hlo
  set c : ℝ := 9586981 * (2 : ℝ) ^ (-32 : ℤ) with hc
  refine ⟨max (M * c) (-(M * c)), ?_, ?_⟩
  · unfold size quot
    rw [neg_inf, over_448, hM, ← EReal.coe_mul, ← EReal.coe_neg]
    exact (EReal.coe_strictMono.monotone.map_max).symm
  · have hc0 : 0 < c := by rw [hc]; positivity
    have e : B * c < (2 : ℝ) ^ (120 : ℤ) := by rw [hB, hc]; norm_num
    refine max_lt ?_ ?_
    · nlinarith [mul_le_mul_of_nonneg_right hup hc0.le]
    · nlinarith [mul_le_mul_of_nonneg_right hlo hc0.le]

/-- The test of a table entry against zero. -/
theorem zero_field : ∀ x : Fin 256, IntOp.cmpi CmpIPredicate.eq (BitVec.ofNat 32 x.val) 0#32 = BitVec.ofBool (decide (x.val = 0)) := by
  decide +kernel

/-- An entry with the test set counts nothing. -/
theorem or_true : ∀ b : BitVec 1, Scalar.select (IntOp.ori b (BitVec.ofBool true)) (0#32) (1#32) = 0#32 := by decide

/-- The kernel's table entry `x` is counted when its word is at most the size. -/
theorem test_entry {a : EReal} {r : ℝ} (ha : a = (r : EReal)) (x : Fin 256) [Decidable (counted r x)] :
    Scalar.select (IntOp.ori (BitVec.ofBool (decide (a < Ideal.ofBits .f32 (IntOp.shli ArithUnit.vector (BitVec.ofNat 32 x.val) 23#32))))
      (IntOp.cmpi CmpIPredicate.eq (BitVec.ofNat 32 x.val) 0#32)) (0#32) (1#32) = if counted r x then 1#32 else 0#32 := by
  subst ha
  have hx := x.isLt
  rw [zero_field]
  by_cases h0 : x.val = 0
  · have hn : ¬ counted r x := fun h => h.1 h0
    rw [if_neg hn]
    simp only [h0, decide_true]
    exact or_true _
  · by_cases h1 : x.val = 255
    · have hn : ¬ counted r x := fun h => h.2.1 h1
      rw [if_neg hn, h1, word_top]
      simp only [EReal.coe_lt_top, decide_true]
      rfl
    · rw [word_pow x h0 h1]
      have e : ((r : EReal) < pw ((x.val : ℤ) - 127)) ↔ ¬ counted r x := by
        unfold pw counted
        rw [EReal.coe_lt_coe_iff]
        constructor
        · rintro h ⟨-, -, h'⟩; linarith
        · intro h; by_contra hc; exact h ⟨h0, h1, not_lt.1 hc⟩
      simp only [h0, decide_false]
      by_cases hc : counted r x
      · rw [if_pos hc, decide_eq_false (by rw [e]; exact not_not.2 hc)]; rfl
      · rw [if_neg hc, decide_eq_true (e.2 hc)]; rfl

/-- The exponent the kernel counts. -/
theorem kernel_expo (v : Vec Ideal Cert.KernelIdeal.S1x16 .f32) {r : ℝ} (hr : size (fun n => v (ix2 0 n)) = (r : EReal)) (hb : r < (2 : ℝ) ^ (120 : ℤ)) :
    Cert.KernelIdeal.Gen.k0_pay280 (F := Ideal) v (ix2 0 0) = BitVec.ofInt 32 (expo r) := by
  classical
  have key : Finset.fold IntOp.addi (0#32) (fun x : Fin 256 => Scalar.select (IntOp.ori (BitVec.ofBool (decide (size (fun n => v (ix2 0 n)) < Ideal.ofBits .f32 (IntOp.shli ArithUnit.vector (BitVec.ofNat 32 x.val) 23#32))))
      (IntOp.cmpi CmpIPredicate.eq (BitVec.ofNat 32 x.val) 0#32)) (0#32) (1#32)) Finset.univ
      = BitVec.ofNat 32 (if r < (2 : ℝ) ^ (-126 : ℤ) then 0 else (lg r + 127).toNat) :=
    (fold_count (counted r) _ (fun x => test_entry hr x) _).trans (by rw [← card_counted hb])
  have main : ∀ w : BitVec 32, w = BitVec.ofNat 32 (if r < (2 : ℝ) ^ (-126 : ℤ) then 0 else (lg r + 127).toNat) →
      Scalar.select (IntOp.cmpi CmpIPredicate.eq w 0#32) (0#32) (IntOp.subi w 126#32) = BitVec.ofInt 32 (expo r) := by
    rintro w rfl
    unfold expo
    split_ifs with h
    · rfl
    · obtain ⟨h1, h2⟩ := log_bounds (not_lt.1 h) hb
      generalize lg r = n at h1 h2
      obtain ⟨k, rfl⟩ : ∃ k : Fin 246, n = (k.val : ℤ) - 126 := ⟨⟨(n + 126).toNat, by omega⟩, by show n = (((n + 126).toNat : ℕ) : ℤ) - 126; omega⟩
      revert k
      decide +kernel
  refine Eq.trans ?_ (main _ key)
  pointwise [Cert.KernelIdeal.Gen.k0_pay280]
  rfl

/-- A selection of arrays, at an index. -/
theorem select_apply {α : Type} {S : Shape} (c : BitVec 1) (a b : S.Idx → α) (i : S.Idx) : Scalar.select c a b i = Scalar.select c (a i) (b i) := by
  unfold Scalar.select; split_ifs <;> rfl

/-- The reference's table entry. -/
theorem ref_entry {a : EReal} {r : ℝ} (ha : a = (r : EReal)) (x : Fin 254) :
    (Scalar.select (BitVec.ofBool (decide (Ideal.exp2 (((IntOp.subi (BitVec.ofNat 32 x.val) 126#32).toInt : ℝ) : EReal) ≤ a)))
      (IntOp.addi (IntOp.subi (BitVec.ofNat 32 x.val) 126#32) 1#32) (4294967170#32)).toInt = entry r x := by
  subst ha
  have e : (IntOp.subi (BitVec.ofNat 32 x.val) 126#32).toInt = (x.val : ℤ) - 126 := by revert x; decide +kernel
  have e' : (IntOp.addi (IntOp.subi (BitVec.ofNat 32 x.val) 126#32) 1#32).toInt = (x.val : ℤ) - 125 := by revert x; decide +kernel
  rw [e, exp2_int]
  unfold entry pw
  by_cases h : (2 : ℝ) ^ ((x.val : ℤ) - 126) ≤ r
  · rw [if_pos h, decide_eq_true (EReal.coe_le_coe_iff.2 h)]; exact e'
  · rw [if_neg h, decide_eq_false (fun hc => h (EReal.coe_le_coe_iff.1 hc))]; rfl

/-- The exponent the reference takes. -/
theorem ref_expo (v : Vec Ideal Cert.ReferenceIdeal.S16 .f32) {r : ℝ} (hr : size (fun n => v (ix1 n)) = (r : EReal)) (hb : r < (2 : ℝ) ^ (120 : ℤ)) :
    Cert.ReferenceIdeal.Gen.k0_pay6 (F := Ideal) v (ix2 0 0) = BitVec.ofInt 32 (expo r) := by
  have key : Scalar.select (BitVec.ofBool (decide (size (fun n => v (ix1 n)) < Ideal.ofBits .f32 0x00800000#32))) (0#32)
      (Finset.fold IntOp.maxsi (2147483648#32) (fun x : Fin 254 => Scalar.select (BitVec.ofBool (decide (Ideal.exp2 (((IntOp.subi (BitVec.ofNat 32 x.val) 126#32).toInt : ℝ) : EReal) ≤ size (fun n => v (ix1 n)))))
        (IntOp.addi (IntOp.subi (BitVec.ofNat 32 x.val) 126#32) 1#32) (4294967170#32)) Finset.univ) = BitVec.ofInt 32 (expo r) := by
    rw [hr, least_normal]
    unfold expo
    by_cases h : r < (2 : ℝ) ^ (-126 : ℤ)
    · rw [if_pos h, decide_eq_true (EReal.coe_lt_coe_iff.2 h)]; rfl
    · rw [if_neg h, decide_eq_false (fun hc => h (EReal.coe_lt_coe_iff.1 hc))]
      have sel : ∀ y : BitVec 32, Scalar.select (BitVec.ofBool false) (0#32) y = y := fun _ => rfl
      rw [sel]
      refine BitVec.eq_of_toInt_eq ?_
      refine (fold_maxsi (ι := Fin 254) _ _ _).trans ?_
      simp only [ref_entry rfl]
      refine (fold_entry (not_lt.1 h) hb).trans ?_
      obtain ⟨h1, h2⟩ := log_bounds (not_lt.1 h) hb
      rw [BitVec.toInt_ofInt]
      show _ = Int.bmod _ (2 ^ 32)
      rw [Int.bmod_eq_of_le (by omega) (by omega)]
  refine Eq.trans ?_ key
  unfold Cert.ReferenceIdeal.Gen.k0_pay6
  simp only [select_apply]
  pointwise
  rfl

end Cert.Exponent
-- ==== Proof.Results.lean ====
/- The reference's five results, over the extended reals, are the kernel's functions of the same arguments. -/
module

public import proofs.«01_k».proof.Proof.KI.Final
public import proofs.«01_k».proof.Proof.RefValue
public import proofs.«01_k».proof.Proof.Scale

@[expose] public section
set_option maxRecDepth 16384
noncomputable section
namespace Cert.Results
open Idealize.ShloMosaic Idealize.ShloMosaic.TcCoe
open Cert.KernelIdeal (S2x16x640x5120 S2x16x640 S5120 S16x640x5120 S16 S1 S1x16)
open Cert.KernelIdeal.Tile (resS nrmS rs code invOf mag shifted)
open Cert.ReferenceIdeal.Gen (k0_pay1 k0_pay2 k0_pay3 k0_pay4 k0_pay5 k0_pay6 k0_pay7 k0_pay8)

variable (P : Vec Ideal S2x16x640x5120 .fp8e4m3) (SC : Vec Ideal S2x16x640 .f32) (BI : Vec Ideal S5120 .f32) (X : Vec Ideal S16x640x5120 .bf16) (GA : Vec Ideal S5120 .f32)
  (HI : Vec Ideal S16 .f32)

/-- The reference's residual. -/
theorem ref_res (b : Fin 16) (s : Fin 640) (d : Fin 5120) : (k0_pay2 (F := Ideal) P SC BI X (ix3 b s d) : EReal) = resS P SC BI X b s d := by
  refine Eq.trans (b := ∑ p : Fin 2, (P (ix4 p b s d) : EReal) * SC (ix3 p b s) + BI (ix1 d) + X (ix3 b s d)) ?_ ?_
  · pointwise [k0_pay2]
  · rw [Fin.sum_univ_two]
    rfl

/-- The divisor of the mean is 5120. -/
theorem word_5120 : Ideal.ofBits .f32 1168113664#32 = ((5120 : ℝ) : EReal) := by
  simp [Ideal.ofBits, Ideal.ieee, -EReal.coe_mul]; norm_num

/-- Dividing by it is multiplying by its reciprocal. -/
theorem div_5120 (x : EReal) : Ideal.div x (Ideal.ofBits .f32 1168113664#32) = x * ((1 / 5120 : ℝ) : EReal) := by
  rw [word_5120, Ideal.div, if_neg (by exact_mod_cast (by norm_num : (5120 : ℝ) ≠ 0)), ← EReal.coe_inv, one_div]

/-- The reference's normalised rows. -/
theorem ref_nrm (b : Fin 16) (s : Fin 640) (d : Fin 5120) : (k0_pay3 (F := Ideal) P SC BI X GA (ix3 b s d) : EReal) = nrmS P SC BI X GA b s d := by
  refine Eq.trans (b := (k0_pay2 (F := Ideal) P SC BI X (ix3 b s d) : EReal) * Ideal.rsqrt (Ideal.div (∑ x : Fin 5120, (k0_pay2 (F := Ideal) P SC BI X (ix3 b s x) : EReal) * k0_pay2 (F := Ideal) P SC BI X (ix3 b s x)) (Ideal.ofBits .f32 1168113664#32) + Ideal.ofBits .f32 897988541#32) * GA (ix1 d)) ?_ ?_
  · pointwise [k0_pay3]
  · rw [div_5120]
    simp only [ref_res]
    rfl

/-- A one-word array has one index. -/
theorem one_index (i j : Cert.ReferenceIdeal.S1.Idx) : i = j := by
  refine (eq_ix1 i).trans (Eq.trans (congrArg ix1 ?_) (eq_ix1 j).symm)
  exact Subsingleton.elim (α := Fin 1) _ _

/-- The reference's maximum is over every row and column. -/
theorem ref_amax_le (u : EReal) : (k0_pay4 (F := Ideal) P SC BI X GA (ix1 0) : EReal) ≤ u ↔ ∀ b s d, mag (nrmS P SC BI X GA b s d) ≤ u := by
  have e : (k0_pay4 (F := Ideal) P SC BI X GA (ix1 0) : EReal) = Finset.fold max (Ideal.ofBits .f32 4286578688#32)
      (fun x : Cert.ReferenceIdeal.S1x16x640x5120.Idx => mag (k0_pay3 (F := Ideal) P SC BI X GA (ix3 (x 1) (x 2) (x 3)) : EReal))
      {i | Cert.ReferenceIdeal.Gen.reduces_S1x16x640x5120_S1.drop i = ix1 0} := by
    pointwise [k0_pay4]
    rfl
  rw [e, Finset.fold_max_le, Cert.Exponent.neg_inf]
  refine ⟨fun h b s d => ?_, fun h => ⟨bot_le, fun x _ => ?_⟩⟩
  · have := h.2 (ix4 0 b s d) (Finset.mem_filter.2 ⟨Finset.mem_univ _, one_index _ _⟩)
    rwa [show (ix3 ((ix4 0 b s d : Cert.ReferenceIdeal.S1x16x640x5120.Idx) 1) ((ix4 0 b s d : Cert.ReferenceIdeal.S1x16x640x5120.Idx) 2) ((ix4 0 b s d : Cert.ReferenceIdeal.S1x16x640x5120.Idx) 3) : S16x640x5120.Idx) = ix3 b s d from rfl, ref_nrm] at this
  · exact (congrArg mag (ref_nrm P SC BI X GA (x 1) (x 2) (x 3))).trans_le (h _ _ _)

/-- The reference's history is the old one moved on by one. -/
theorem ref_hist (a : Vec Ideal S1 .f32) : k0_pay5 (F := Ideal) a (View.ld HI Cert.ReferenceIdeal.Gen.r0_5) = shifted HI (a (ix1 0)) := by
  funext y
  obtain ⟨n, rfl⟩ : ∃ n, y = (ix1 n : S16.Idx) := ⟨y 0, eq_ix1 y⟩
  generalize hw : View.ld HI Cert.ReferenceIdeal.Gen.r0_5 = w
  have e : k0_pay5 (F := Ideal) a w (ix1 n) = if h : n.val < 15 then w (ix1 ⟨n.val, h⟩) else a (ix1 ⟨n.val - 15, by omega⟩) := by
    pointwise [k0_pay5]
  rw [e]
  unfold shifted
  subst hw
  show _ = if h : n.val < 15 then HI (ix1 ⟨n.val + 1, by omega⟩) else a (ix1 0)
  split_ifs with h
  · refine congrArg HI (funext fun i => Fin.ext ?_)
    fin_cases i
    show 1 + 1 * n.val = n.val + 1
    omega
  · exact congrArg a (congrArg ix1 (Subsingleton.elim _ _))

/-! ## The delayed scale -/

section
variable (hf : ∀ n, max (HI (ix1 n) : EReal) (-(HI (ix1 n) : EReal)) ≤ Ideal.ofBits .f32 0x7F7FFFFF#32)
include hf

/-- The kernel's scale is the reference's. -/
theorem scale_eq : (Cert.KernelIdeal.Gen.k0_pay278 (F := Ideal) (Cert.KernelIdeal.Gen.k0_pay280 (F := Ideal) (fun y : S1x16.Idx => HI (ix1 (y 1)))) : EReal)
    = k0_pay7 (F := Ideal) HI (ix1 0) := by
  obtain ⟨r, hr, hb⟩ := Cert.Exponent.size_real (h := fun n => HI (ix1 n)) hf
  have ek := Cert.Exponent.kernel_expo (fun y : S1x16.Idx => HI (ix1 (y 1))) hr hb
  have er := Cert.Exponent.ref_expo HI hr hb
  have e1 : ∀ v, (Cert.KernelIdeal.Gen.k0_pay278 (F := Ideal) v : EReal) = Finset.fold max (Ideal.ofBits .f32 4286578688#32)
      (fun _ : Fin 1 => Ideal.ofBits .f32 (IntOp.shli ArithUnit.vector (IntOp.minsi 255#32 (IntOp.maxsi 0#32 (IntOp.addi (v (ix2 0 0)) 127#32))) 23#32)) Finset.univ := by
    intro v
    pointwise [Cert.KernelIdeal.Gen.k0_pay278]
    rfl
  have e2 : (k0_pay7 (F := Ideal) HI (ix1 0) : EReal) = Ideal.exp2 (((k0_pay6 (F := Ideal) HI (ix2 0 0)).toInt : ℝ) : EReal) := by
    refine Eq.trans (b := FloatOps.exp2 (F := Ideal) (FloatOps.sitofp .f32 (k0_pay6 (F := Ideal) HI (ix2 0 0)))) ?_ rfl
    pointwise [k0_pay7]
  rw [e1, ek, e2, er, Cert.Exponent.scale_word (Cert.Exponent.expo_bounds hb)]
  rw [Finset.univ_unique, Finset.fold_singleton, Cert.Exponent.neg_inf]
  exact max_eq_left bot_le

/-- The kernel's inverse scale is the reference's. -/
theorem inv_eq : invOf (fun y : S1x16.Idx => HI (ix1 (y 1))) = Ideal.exp2 (((IntOp.subi 0#32 (k0_pay6 (F := Ideal) HI (ix2 0 0))).toInt : ℝ) : EReal) := by
  obtain ⟨r, hr, hb⟩ := Cert.Exponent.size_real (h := fun n => HI (ix1 n)) hf
  have ek := Cert.Exponent.kernel_expo (fun y : S1x16.Idx => HI (ix1 (y 1))) hr hb
  have er := Cert.Exponent.ref_expo HI hr hb
  have e1 : ∀ v, invOf v = Ideal.ofBits .f32 (IntOp.shli ArithUnit.vector (IntOp.minsi 255#32 (IntOp.maxsi 0#32 (IntOp.addi (IntOp.subi 0#32 (Cert.KernelIdeal.Gen.k0_pay280 (F := Ideal) v (ix2 0 0))) 127#32))) 23#32) := by
    intro v
    rfl
  rw [e1, ek, er, Cert.Exponent.inv_word (Cert.Exponent.expo_bounds hb)]

/-- The reference's codes. -/
theorem ref_code (b : Fin 16) (s : Fin 640) (d : Fin 5120) : (k0_pay1 (F := Ideal) (k0_pay8 (F := Ideal) (k0_pay3 (F := Ideal) P SC BI X GA) HI) (ix3 b s d) : EReal)
    = code (invOf (fun y : S1x16.Idx => HI (ix1 (y 1)))) (nrmS P SC BI X GA b s d) := by
  rw [← ref_nrm, inv_eq HI hf]
  generalize k0_pay3 (F := Ideal) P SC BI X GA = v
  refine Eq.trans (b := (k0_pay8 (F := Ideal) v HI (ix3 b s d) : EReal)) rfl ?_
  refine Eq.trans (b := min (Ideal.ofBits .f32 1138753536#32) (max (Ideal.ofBits .f32 3286237184#32) ((v (ix3 b s d) : EReal) * FloatOps.exp2 (F := Ideal) (FloatOps.sitofp .f32 (IntOp.subi 0#32 (k0_pay6 (F := Ideal) HI (ix2 0 0))))))) ?_ rfl
  pointwise [k0_pay8]

end
end Cert.Results
-- ==== Proof.Algebraic.lean ====
/- The value claim: over the extended reals, with a finite history, the kernel's five results are the
   reference's. -/
module

public import proofs.«01_k».proof.Defs
public import proofs.«01_k».proof.Proof.Results

@[expose] public section
set_option maxRecDepth 16384
noncomputable section
namespace Cert.Algebraic
open Idealize.ShloMosaic Idealize.ShloMosaic.TcCoe Idealize.SL.Sem

namespace K
open Cert.KernelIdeal Cert.KernelIdeal.Gen Cert.KernelIdeal.Tile

variable (m : (ℓ : Loc nD τ sig) → Buf (Elt Ideal) ℓ) (ρ : Dev nD → PrngReg)

/-- The kernel's run: each result at its function of the arguments, the arguments unchanged. -/
theorem run : θ_run defs (onTc (τ := τ) (main (F := Ideal))) ⟨m, fun _ => 0, ρ⟩ (fun r => ∀ c : Dev nD,
      r.2.mem ((c.tc : Thread nD τ).loc main_v3_0) = G7 m c
      ∧ r.2.mem ((c.tc : Thread nD τ).loc main_v3_1) = G8 m c
      ∧ r.2.mem ((c.tc : Thread nD τ).loc main_v3_2) = G9 m c
      ∧ r.2.mem ((c.tc : Thread nD τ).loc main_v3_3) = G10 m c
      ∧ r.2.mem ((c.tc : Thread nD τ).loc main_v3_4) = G11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨((h.1.1 c).1 7).trans (final7 m c), ((h.1.1 c).1 8).trans (final8 m c), ((h.1.1 c).1 9).trans (final9 m c),
       ((h.1.1 c).1 10).trans (final10 m c), ((h.1.1 c).1 11).trans (final11 m c), h.2.1 c⟩)
    (θ_run_and (run_main m ρ) (frame m ρ))

end K

section
open Cert.ReferenceIdeal.Val (G6)

variable (m : (ℓ : Loc Cert.KernelIdeal.nD Cert.KernelIdeal.τ Cert.KernelIdeal.sig) → Buf (Elt Ideal) ℓ) (c : Dev Cert.KernelIdeal.nD)
open Cert.KernelIdeal (S2x16x640x5120 S2x16x640 S5120 S16x640x5120 S16 S1 S1x16)
open Cert.KernelIdeal.Tile (aP aSC aBI aX aGA aHI)
open Cert.ReferenceIdeal.Val (G6)

/-- First result: the residual. -/
theorem same0 : Cert.ReferenceIdeal.Val.G6 (F := Ideal) (aP m c) (aSC m c) (aBI m c) (aX m c) (aGA m c) (aHI m c) = Cert.KernelIdeal.Tile.G7 m c := by
  funext y
  obtain ⟨b, s, d, rfl⟩ : ∃ b s d, y = (ix3 b s d : S16x640x5120.Idx) := ⟨y 0, y 1, y 2, eq_ix3 y⟩
  exact Cert.Results.ref_res (aP m c) (aSC m c) (aBI m c) (aX m c) b s d

/-- The reference's maximum reads whole arrays. -/
theorem amax_whole (P : Vec Ideal S2x16x640x5120 .fp8e4m3) (SC : Vec Ideal S2x16x640 .f32) (BI : Vec Ideal S5120 .f32) (X : Vec Ideal S16x640x5120 .bf16) (GA : Vec Ideal S5120 .f32)
    (HI : Vec Ideal S16 .f32) : Cert.ReferenceIdeal.Gen.k0_pay9 (F := Ideal) P SC BI X GA HI = Cert.ReferenceIdeal.Gen.k0_pay4 (F := Ideal) P SC BI X GA := by
  have z4 : (![0, 0, 0, 0] : Fin 4 → ℕ) = fun _ => 0 := by funext a; fin_cases a <;> rfl
  have z3 : (![0, 0, 0] : Fin 3 → ℕ) = fun _ => 0 := by funext a; fin_cases a <;> rfl
  have z1 : (![0] : Fin 1 → ℕ) = fun _ => 0 := by funext a; fin_cases a; rfl
  unfold Cert.ReferenceIdeal.Gen.k0_pay9
  congr 1
  · exact View.ld_unit_zero (S := S2x16x640x5120) z4 _ _
  · exact View.ld_unit_zero (S := S2x16x640) z3 _ _
  · exact View.ld_unit_zero (S := S5120) z1 _ _
  · exact View.ld_unit_zero (S := S16x640x5120) z3 _ _
  · exact View.ld_unit_zero (S := S5120) z1 _ _

/-- The two maxima agree. -/
theorem amax_eq : (Cert.ReferenceIdeal.Gen.k0_pay4 (F := Ideal) (aP m c) (aSC m c) (aBI m c) (aX m c) (aGA m c) (ix1 0) : EReal) = Cert.KernelIdeal.Tile.amaxAt m c 80 :=
  eq_of_forall_ge_iff (α := EReal) fun u => (Cert.Results.ref_amax_le _ _ _ _ _ u).trans (Cert.KernelIdeal.Tile.amaxAt_le m c u).symm

/-- Second result: the maximum. -/
theorem same1 : Cert.ReferenceIdeal.Val.G7 (F := Ideal) (aP m c) (aSC m c) (aBI m c) (aX m c) (aGA m c) (aHI m c) = Cert.KernelIdeal.Tile.G8 m c := by
  refine (amax_whole _ _ _ _ _ _).trans ?_
  funext y
  rw [Cert.Results.one_index y (ix1 0)]
  exact amax_eq m c

/-- Third result: the history. -/
theorem same2 : Cert.ReferenceIdeal.Val.G8 (F := Ideal) (aP m c) (aSC m c) (aBI m c) (aX m c) (aGA m c) (aHI m c) = Cert.KernelIdeal.Tile.G9 m c := by
  refine (Cert.Results.ref_hist (aHI m c) _).trans ?_
  rw [amax_whole]
  exact congrArg (Cert.KernelIdeal.Tile.shifted (aHI m c)) (amax_eq m c)

variable (hf : ∀ n, max (aHI m c (ix1 n) : EReal) (-(aHI m c (ix1 n) : EReal)) ≤ Ideal.ofBits .f32 0x7F7FFFFF#32)
include hf

/-- Fourth result: the codes. -/
theorem same3 : Cert.ReferenceIdeal.Val.G9 (F := Ideal) (aP m c) (aSC m c) (aBI m c) (aX m c) (aGA m c) (aHI m c) = Cert.KernelIdeal.Tile.G10 m c := by
  funext y
  obtain ⟨b, s, d, rfl⟩ : ∃ b s d, y = (ix3 b s d : S16x640x5120.Idx) := ⟨y 0, y 1, y 2, eq_ix3 y⟩
  exact Cert.Results.ref_code (aP m c) (aSC m c) (aBI m c) (aX m c) (aGA m c) (aHI m c) hf b s d

/-- Fifth result: the scale. -/
theorem same4 : Cert.ReferenceIdeal.Val.G10 (F := Ideal) (aP m c) (aSC m c) (aBI m c) (aX m c) (aGA m c) (aHI m c) = Cert.KernelIdeal.Tile.G11 m c := by
  funext y
  rw [Cert.Results.one_index y (ix1 0)]
  exact (Cert.Results.scale_eq (aHI m c) hf).symm

end

/-- The precondition, read: every entry of the history is at most the largest finite number in size. -/
theorem finite_of [Cert.Pre_finite_history.Facts] {P SC BI X GA} (HI : Vec Ideal Cert.KernelIdeal.S16 .f32)
    (h : Cert.Pre_finite_history.fn (F := Ideal) P SC BI X GA HI = fun _ => 1#1) (n : Fin 16) :
    max (HI (ix1 n) : EReal) (-(HI (ix1 n) : EReal)) ≤ Ideal.ofBits .f32 0x7F7FFFFF#32 := by
  have e : BitVec.ofBool (decide (max (HI (ix1 n) : EReal) (-(HI (ix1 n) : EReal)) ≤ Ideal.ofBits .f32 0x7F7FFFFF#32)) = 1#1 := congrFun h (ix1 n)
  by_contra hn
  rw [decide_eq_false hn] at e
  exact absurd e (by decide)

/-- The function printed for the precondition has its side condition. -/
theorem pre_facts : Cert.Pre_finite_history.Facts := ⟨by decide⟩

/-- With a finite history both runs end with the same five results. -/
theorem algebraic : Cert.algebraic_KernelIdeal_ReferenceIdeal_pre_finite_history (hKernelIdeal := Cert.KernelIdeal.Gen.facts)
    (hReferenceIdeal := Cert.ReferenceIdeal.Gen.facts) (hPre_finite_history := pre_facts) := by
  intro m g m' g' hpre hargs
  refine ⟨fun c => Cert.KernelIdeal.Tile.G7 m c, fun c => Cert.KernelIdeal.Tile.G8 m c, fun c => Cert.KernelIdeal.Tile.G9 m c,
    fun c => Cert.KernelIdeal.Tile.G10 m c, fun c => Cert.KernelIdeal.Tile.G11 m c, K.run m g, ?_⟩
  refine (θ_run _ _ _).mono (fun r h c => ?_) (Cert.ReferenceIdeal.Val.run (F := Ideal) m' g')
  obtain ⟨r0, r1, r2, r3, r4, k⟩ := h c
  obtain ⟨e0, e1, e2, e3, e4, e5⟩ := hargs c
  have hf := fun n => @finite_of pre_facts _ _ _ _ _ (m ((c.tc : Thread Cert.KernelIdeal.nD Cert.KernelIdeal.τ).loc Cert.KernelIdeal.main_arg5)) (hpre c) n
  rw [e0, e1, e2, e3, e4, e5] at r0 r1 r2 r3 r4
  exact ⟨r0.trans (same0 m c), r1.trans (same1 m c), r2.trans (same2 m c), r3.trans (same3 m c hf), r4.trans (same4 m c hf), k⟩

end Cert.Algebraic
-- ==== Proof.lean ====
module

public import proofs.«01_k».proof.Defs
public import proofs.«01_k».proof.Proof.K.Frame
public import proofs.«01_k».proof.Proof.KI.Frame
public import proofs.«01_k».proof.Proof.Gen.ReferenceIdeal.Frame
public import proofs.«01_k».proof.Proof.Algebraic

@[expose] public section

theorem Cert.Proof.claim : Cert.Claim :=
  ⟨Cert.Kernel.Gen.facts, Cert.KernelIdeal.Gen.facts, Cert.ReferenceIdeal.Gen.facts, Cert.Algebraic.pre_facts,
    fun m ρ _ => Cert.Kernel.Tile.frame m ρ,
    fun m ρ _ => Cert.KernelIdeal.Tile.frame m ρ,
    fun m ρ _ => Cert.KernelIdeal.Tile.frame m ρ,
    fun m ρ _ => Cert.ReferenceIdeal.Gen.frame m ρ,
    fun m ρ _ => Cert.ReferenceIdeal.Gen.frame m ρ,
    Idealize.ShloMosaic.IdealRules.named_const.statement Cert.KernelIdeal.κ "inv_d" .f32 0x394CCCCD#32 ((1 / 5120 : ℝ) : EReal) rfl,
    Cert.Algebraic.algebraic⟩
